-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 8192]⟩ ⟨2, ![4096, 8192]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v4)) (v1 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = Layout.block ⟨2, ![1024, 8192]⟩ ⟨2, ![4096, 8192]⟩ 0 4 c v0
          ∧ r.2.mem ((c.tc : Thread Cert.KernelIdeal.nD Cert.KernelIdeal.τ).loc Cert.KernelIdeal.main_v1_1) = Layout.block ⟨2, ![1, 128]⟩ ⟨2, ![4, 128]⟩ 0 4 c v1
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v4) = v0
          ∧ r.2.mem (((0 : Dev Cert.ReferenceIdeal.nD).tc : Thread Cert.ReferenceIdeal.nD Cert.ReferenceIdeal.τ).loc Cert.ReferenceIdeal.main_v9) = v1
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S1024x8192 : Shape := ⟨2, ![1024, 8192]⟩
abbrev S1x128 : Shape := ⟨2, ![1, 128]⟩
abbrev S1024x1024 : Shape := ⟨2, ![1024, 1024]⟩
abbrev S2x1024x1024 : Shape := ⟨3, ![2, 1024, 1024]⟩
abbrev S2x1024x512 : Shape := ⟨3, ![2, 1024, 512]⟩
abbrev S4x2x1024x512 : Shape := ⟨4, ![4, 2, 1024, 512]⟩
abbrev S3x2x1024x512 : Shape := ⟨4, ![3, 2, 1024, 512]⟩
abbrev S3x2 : Shape := ⟨2, ![3, 2]⟩
abbrev S4x2 : Shape := ⟨2, ![4, 2]⟩
abbrev S_ : Shape := ⟨0, ![]⟩
abbrev S1x1 : Shape := ⟨2, ![1, 1]⟩
abbrev S1x1024x512 : Shape := ⟨3, ![1, 1024, 512]⟩
abbrev S1024x512 : Shape := ⟨2, ![1024, 512]⟩
abbrev S1x1x1024x512 : Shape := ⟨4, ![1, 1, 1024, 512]⟩
abbrev S1x1024x1024 : Shape := ⟨3, ![1, 1024, 1024]⟩
abbrev S1 : Shape := ⟨1, ![1]⟩
abbrev S1x1x1 : Shape := ⟨3, ![1, 1, 1]⟩

abbrev nBuf : Space → Nat
  | .hbm => 4
  | .vmem => 13
  | .smem => 0
  | _ => 0

abbrev bufTy : (tb : Table) → Fin (tcTables nBuf tb) → BufTy
  | .hbm, ⟨0, _⟩ => ⟨S4096x1024, .bf16⟩
  | .hbm, ⟨1, _⟩ => ⟨S1024x8192, .bf16⟩
  | .hbm, ⟨2, _⟩ => ⟨S1024x8192, .f32⟩
  | .hbm, ⟨3, _⟩ => ⟨S1x128, .f32⟩
  | .local _ .vmem, ⟨0, _⟩ => ⟨S4096x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x128, .f32⟩
  | .local _ .vmem, ⟨6, _⟩ => ⟨S2x1024x1024, .bf16⟩
  | .local _ .vmem, ⟨7, _⟩ => ⟨S2x1024x1024, .bf16⟩
  | .local _ .vmem, ⟨8, _⟩ => ⟨S2x1024x512, .bf16⟩
  | .local _ .vmem, ⟨9, _⟩ => ⟨S2x1024x512, .bf16⟩
  | .local _ .vmem, ⟨10, _⟩ => ⟨S4x2x1024x512, .bf16⟩
  | .local _ .vmem, ⟨11, _⟩ => ⟨S3x2x1024x512, .bf16⟩
  | .local _ .vmem, ⟨12, _⟩ => ⟨S4x2x1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1_0 : Ref sig .tc := ⟨.hbm, 2, rfl⟩
abbrev main_v1_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev barrier0 : Sem sig := 0

abbrev nD : Nat := 4
abbrev τ : Topo := Topo.v7x

variable {F : FTy → Type} [FloatOps F]

abbrev grid0 : Pipeline.Grid := ⟨1, ![10], ![false]⟩

def k0_cond1 (i : grid0.Coords) : BitVec 1 :=
  let arg0 : BitVec 32 := BitVec.ofNat 32 (i 0).val
  let c0_i32 : BitVec 32 := 0#32
  let v8 : BitVec 1 := Scalar.cmpi .eq arg0 c0_i32
  let v9 : BitVec 32 := Scalar.extui v8
  let c0_i32_5 : BitVec 32 := 0#32
  let v10 : BitVec 1 := Scalar.cmpi .ne v9 c0_i32_5
  v10

def k0_dev1 (d0 : Dev nD) : Nat :=
  let c0_i32_19 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_18 : BitVec 32 := 1#32
  let v36 : BitVec 32 := Scalar.muli v4 c1_i32_18
  let v37 : BitVec 32 := Scalar.addi c0_i32_19 v36
  v37.toNat
def k0_dev2 (d0 : Dev nD) : Nat :=
  let c0_i32_22 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_21 : BitVec 32 := 1#32
  let v38 : BitVec 32 := Scalar.muli v7 c1_i32_21
  let v39 : BitVec 32 := Scalar.addi c0_i32_22 v38
  v39.toNat
def k0_cond4 (i : grid0.Coords) : BitVec 1 :=
  let arg0 : BitVec 32 := BitVec.ofNat 32 (i 0).val
  let c1_i32_9 : BitVec 32 := 1#32
  let v21 : BitVec 1 := Scalar.cmpi .sge arg0 c1_i32_9
  let c8_i32_10 : BitVec 32 := 8#32
  let v22 : BitVec 1 := Scalar.cmpi .sle arg0 c8_i32_10
  let v23 : BitVec 1 := Scalar.andi v21 v22
  let v24 : BitVec 32 := Scalar.extui v23
  let c0_i32_11 : BitVec 32 := 0#32
  let v25 : BitVec 1 := Scalar.cmpi .ne v24 c0_i32_11
  v25

def k0_off1 (i : grid0.Coords) : Fin 2 → Nat :=
  let arg0 : BitVec 32 := BitVec.ofNat 32 (i 0).val
  let c1_i32_17 : BitVec 32 := 1#32
  let v35 : BitVec 32 := Scalar.subi arg0 c1_i32_17
  let c3_i32 : BitVec 32 := 3#32
  let v36 : BitVec 32 := Scalar.remsi v35 c3_i32
  let c0_i32_22 : BitVec 32 := 0#32
  ![v36.toNat, 0]
def k0_off2 (i : grid0.Coords) : Fin 4 → Nat :=
  let arg0 : BitVec 32 := BitVec.ofNat 32 (i 0).val
  let c1_i32_17 : BitVec 32 := 1#32
  let v35 : BitVec 32 := Scalar.subi arg0 c1_i32_17
  let c3_i32 : BitVec 32 := 3#32
  let v36 : BitVec 32 := Scalar.remsi v35 c3_i32
  let c0_i32_21 : BitVec 32 := 0#32
  let c0_i32_27 : BitVec 32 := 0#32
  let c0_i32_28 : BitVec 32 := 0#32
  ![v36.toNat, 0, 0, 0]
def k0_off3 (i : grid0.Coords) : Fin 4 → Nat :=
  let arg0 : BitVec 32 := BitVec.ofNat 32 (i 0).val
  let c1_i32_17 : BitVec 32 := 1#32
  let v35 : BitVec 32 := Scalar.subi arg0 c1_i32_17
  let c3_i32 : BitVec 32 := 3#32
  let v36 : BitVec 32 := Scalar.remsi v35 c3_i32
  let v50 : Index := Scalar.indexCast v36
  let c0_32 : Index := 0#32
  let c0_33 : Index := 0#32
  let c0_34 : Index := 0#32
  ![v50.toNat, 0, 0, 0]
def k0_off4 (i : grid0.Coords) : Fin 2 → Nat :=
  let arg0 : BitVec 32 := BitVec.ofNat 32 (i 0).val
  let c1_i32_18 : BitVec 32 := 1#32
  let v37 : BitVec 32 := Scalar.subi arg0 c1_i32_18
  let c4_i32_19 : BitVec 32 := 4#32
  let v38 : BitVec 32 := Scalar.remsi v37 c4_i32_19
  let c0_i32_40 : BitVec 32 := 0#32
  ![v38.toNat, 0]
def k0_off5 (i : grid0.Coords) : Fin 4 → Nat :=
  let arg0 : BitVec 32 := BitVec.ofNat 32 (i 0).val
  let c1_i32_18 : BitVec 32 := 1#32
  let v37 : BitVec 32 := Scalar.subi arg0 c1_i32_18
  let c4_i32_19 : BitVec 32 := 4#32
  let v38 : BitVec 32 := Scalar.remsi v37 c4_i32_19
  let c0_i32_39 : BitVec 32 := 0#32
  let c0_i32_45 : BitVec 32 := 0#32
  let c0_i32_46 : BitVec 32 := 0#32
  ![v38.toNat, 0, 0, 0]
def k0_dev3 (d0 : Dev nD) : Nat :=
  let c0_i32_44 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_43 : BitVec 32 := 1#32
  let v59 : BitVec 32 := Scalar.muli v7 c1_i32_43
  let v60 : BitVec 32 := Scalar.addi c0_i32_44 v59
  v60.toNat
def k0_off6 (i : grid0.Coords) : Fin 2 → Nat :=
  let arg0 : BitVec 32 := BitVec.ofNat 32 (i 0).val
  let c1_i32_17 : BitVec 32 := 1#32
  let v35 : BitVec 32 := Scalar.subi arg0 c1_i32_17
  let c3_i32 : BitVec 32 := 3#32
  let v36 : BitVec 32 := Scalar.remsi v35 c3_i32
  let c1_i32_51 : BitVec 32 := 1#32
  ![v36.toNat, 1]
def k0_off7 (i : grid0.Coords) : Fin 4 → Nat :=
  let arg0 : BitVec 32 := BitVec.ofNat 32 (i 0).val
  let c1_i32_17 : BitVec 32 := 1#32
  let v35 : BitVec 32 := Scalar.subi arg0 c1_i32_17
  let c3_i32 : BitVec 32 := 3#32
  let v36 : BitVec 32 := Scalar.remsi v35 c3_i32
  let c1_i32_50 : BitVec 32 := 1#32
  let c0_i32_56 : BitVec 32 := 0#32
  let c0_i32_57 : BitVec 32 := 0#32
  ![v36.toNat, 1, 0, 0]
def k0_off8 (i : grid0.Coords) : Fin 4 → Nat :=
  let arg0 : BitVec 32 := BitVec.ofNat 32 (i 0).val
  let c1_i32_17 : BitVec 32 := 1#32
  let v35 : BitVec 32 := Scalar.subi arg0 c1_i32_17
  let c3_i32 : BitVec 32 := 3#32
  let v36 : BitVec 32 := Scalar.remsi v35 c3_i32
  let v80 : Index := Scalar.indexCast v36
  let c1_62 : Index := 1#32
  let c0_63 : Index := 0#32
  let c0_64 : Index := 0#32
  ![v80.toNat, 1, 0, 0]
def k0_off9 (i : grid0.Coords) : Fin 2 → Nat :=
  let arg0 : BitVec 32 := BitVec.ofNat 32 (i 0).val
  let c1_i32_18 : BitVec 32 := 1#32
  let v37 : BitVec 32 := Scalar.subi arg0 c1_i32_18
  let c4_i32_19 : BitVec 32 := 4#32
  let v38 : BitVec 32 := Scalar.remsi v37 c4_i32_19
  let c1_i32_70 : BitVec 32 := 1#32
  ![v38.toNat, 1]
def k0_off10 (i : grid0.Coords) : Fin 4 → Nat :=
  let arg0 : BitVec 32 := BitVec.ofNat 32 (i 0).val
  let c1_i32_18 : BitVec 32 := 1#32
  let v37 : BitVec 32 := Scalar.subi arg0 c1_i32_18
  let c4_i32_19 : BitVec 32 := 4#32
  let v38 : BitVec 32 := Scalar.remsi v37 c4_i32_19
  let c1_i32_69 : BitVec 32 := 1#32
  let c0_i32_75 : BitVec 32 := 0#32
  let c0_i32_76 : BitVec 32 := 0#32
  ![v38.toNat, 1, 0, 0]
def k0_dev4 (d0 : Dev nD) : Nat :=
  let c0_i32_74 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_73 : BitVec 32 := 1#32
  let v89 : BitVec 32 := Scalar.muli v4 c1_i32_73
  let v90 : BitVec 32 := Scalar.addi c0_i32_74 v89
  v90.toNat
def k0_cond5 (i : grid0.Coords) : BitVec 1 :=
  let arg0 : BitVec 32 := BitVec.ofNat 32 (i 0).val
  let c7_i32 : BitVec 32 := 7#32
  let v26 : BitVec 1 := Scalar.cmpi .sle arg0 c7_i32
  let v27 : BitVec 32 := Scalar.extui v26
  let c0_i32_12 : BitVec 32 := 0#32
  let v28 : BitVec 1 := Scalar.cmpi .ne v27 c0_i32_12
  v28

def k0_off11 (d0 : Dev nD) (c1_i32_0 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c1_i32_0
  let c4_i32_1 : BitVec 32 := 4#32
  let v4 : BitVec 32 := Scalar.remsi v3 c4_i32_1
  let c1024_i32 : BitVec 32 := 1024#32
  let v39 : BitVec 32 := Scalar.muli v4 c1024_i32
  let v40 : Index := Scalar.indexCast v39
  let c0_19 : Index := 0#32
  ![v40.toNat, 0]
def k0_off12 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1024_i32_23 : BitVec 32 := 1024#32
  let v48 : BitVec 32 := Scalar.muli v7 c1024_i32_23
  let v49 : Index := Scalar.indexCast v48
  let c0_24 : Index := 0#32
  ![v49.toNat, 0]
def k0_off13 (i : grid0.Coords) : Fin 2 → Nat :=
  let arg0 : BitVec 32 := BitVec.ofNat 32 (i 0).val
  let c4_i32_17 : BitVec 32 := 4#32
  let v35 : BitVec 32 := Scalar.remsi arg0 c4_i32_17
  let c0_i32_32 : BitVec 32 := 0#32
  ![v35.toNat, 0]
def k0_off14 (i : grid0.Coords) : Fin 4 → Nat :=
  let arg0 : BitVec 32 := BitVec.ofNat 32 (i 0).val
  let c4_i32_17 : BitVec 32 := 4#32
  let v35 : BitVec 32 := Scalar.remsi arg0 c4_i32_17
  let c0_i32_31 : BitVec 32 := 0#32
  let c0_i32_37 : BitVec 32 := 0#32
  let c0_i32_38 : BitVec 32 := 0#32
  ![v35.toNat, 0, 0, 0]
def k0_dev5 (d0 : Dev nD) : Nat :=
  let c0_i32_36 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_35 : BitVec 32 := 1#32
  let v59 : BitVec 32 := Scalar.muli v4 c1_i32_35
  let v60 : BitVec 32 := Scalar.addi c0_i32_36 v59
  v60.toNat
def k0_off15 (i : grid0.Coords) : Fin 2 → Nat :=
  let arg0 : BitVec 32 := BitVec.ofNat 32 (i 0).val
  let c3_i32 : BitVec 32 := 3#32
  let v36 : BitVec 32 := Scalar.remsi arg0 c3_i32
  let c0_i32_49 : BitVec 32 := 0#32
  ![v36.toNat, 0]
def k0_off16 (i : grid0.Coords) : Fin 4 → Nat :=
  let arg0 : BitVec 32 := BitVec.ofNat 32 (i 0).val
  let c3_i32 : BitVec 32 := 3#32
  let v36 : BitVec 32 := Scalar.remsi arg0 c3_i32
  let c0_i32_48 : BitVec 32 := 0#32
  let c0_i32_54 : BitVec 32 := 0#32
  let c0_i32_55 : BitVec 32 := 0#32
  ![v36.toNat, 0, 0, 0]
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_52 : BitVec 32 := 1#32
  let v79 : BitVec 32 := Scalar.muli v7 c1_i32_52
  let v80 : BitVec 32 := Scalar.addi c0_i32_53 v79
  v80.toNat
def k0_off17 (i : grid0.Coords) : Fin 2 → Nat :=
  let arg0 : BitVec 32 := BitVec.ofNat 32 (i 0).val
  let c4_i32_17 : BitVec 32 := 4#32
  let v35 : BitVec 32 := Scalar.remsi arg0 c4_i32_17
  let c1_i32_60 : BitVec 32 := 1#32
  ![v35.toNat, 1]
def k0_off18 (i : grid0.Coords) : Fin 4 → Nat :=
  let arg0 : BitVec 32 := BitVec.ofNat 32 (i 0).val
  let c4_i32_17 : BitVec 32 := 4#32
  let v35 : BitVec 32 := Scalar.remsi arg0 c4_i32_17
  let c1_i32_59 : BitVec 32 := 1#32
  let c0_i32_65 : BitVec 32 := 0#32
  let c0_i32_66 : BitVec 32 := 0#32
  ![v35.toNat, 1, 0, 0]
def k0_dev7 (d0 : Dev nD) : Nat :=
  let c0_i32_64 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_63 : BitVec 32 := 1#32
  let v89 : BitVec 32 := Scalar.muli v7 c1_i32_63
  let v90 : BitVec 32 := Scalar.addi c0_i32_64 v89
  v90.toNat
def k0_off19 (i : grid0.Coords) : Fin 2 → Nat :=
  let arg0 : BitVec 32 := BitVec.ofNat 32 (i 0).val
  let c3_i32 : BitVec 32 := 3#32
  let v36 : BitVec 32 := Scalar.remsi arg0 c3_i32
  let c1_i32_76 : BitVec 32 := 1#32
  ![v36.toNat, 1]
def k0_off20 (i : grid0.Coords) : Fin 4 → Nat :=
  let arg0 : BitVec 32 := BitVec.ofNat 32 (i 0).val
  let c3_i32 : BitVec 32 := 3#32
  let v36 : BitVec 32 := Scalar.remsi arg0 c3_i32
  let c1_i32_75 : BitVec 32 := 1#32
  let c0_i32_81 : BitVec 32 := 0#32
  let c0_i32_82 : BitVec 32 := 0#32
  ![v36.toNat, 1, 0, 0]
def k0_dev8 (d0 : Dev nD) : Nat :=
  let c0_i32_80 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_79 : BitVec 32 := 1#32
  let v109 : BitVec 32 := Scalar.muli v4 c1_i32_79
  let v110 : BitVec 32 := Scalar.addi c0_i32_80 v109
  v110.toNat
def k0_cond6 (i : grid0.Coords) : BitVec 1 :=
  let arg0 : BitVec 32 := BitVec.ofNat 32 (i 0).val
  let c2_i32_13 : BitVec 32 := 2#32
  let v29 : BitVec 1 := Scalar.cmpi .sge arg0 c2_i32_13
  let v30 : BitVec 32 := Scalar.extui v29
  let c0_i32_14 : BitVec 32 := 0#32
  let v31 : BitVec 1 := Scalar.cmpi .ne v30 c0_i32_14
  v31

def k0_off21 (i : grid0.Coords) : Fin 2 → Nat :=
  let arg0 : BitVec 32 := BitVec.ofNat 32 (i 0).val
  let c2_i32_17 : BitVec 32 := 2#32
  let v35 : BitVec 32 := Scalar.subi arg0 c2_i32_17
  let c4_i32_18 : BitVec 32 := 4#32
  let v36 : BitVec 32 := Scalar.remsi v35 c4_i32_18
  let c0_i32_23 : BitVec 32 := 0#32
  ![v36.toNat, 0]
def k0_off22 (i : grid0.Coords) : Fin 4 → Nat :=
  let arg0 : BitVec 32 := BitVec.ofNat 32 (i 0).val
  let c2_i32_17 : BitVec 32 := 2#32
  let v35 : BitVec 32 := Scalar.subi arg0 c2_i32_17
  let c4_i32_18 : BitVec 32 := 4#32
  let v36 : BitVec 32 := Scalar.remsi v35 c4_i32_18
  let c0_i32_22 : BitVec 32 := 0#32
  let c0_i32_28 : BitVec 32 := 0#32
  let c0_i32_29 : BitVec 32 := 0#32
  ![v36.toNat, 0, 0, 0]
def k0_off23 (i : grid0.Coords) : Fin 3 → Nat :=
  let arg0 : BitVec 32 := BitVec.ofNat 32 (i 0).val
  let c2_i32_19 : BitVec 32 := 2#32
  let v37 : BitVec 32 := Scalar.subi arg0 c2_i32_19
  let c2_i32_20 : BitVec 32 := 2#32
  let v38 : BitVec 32 := Scalar.remsi v37 c2_i32_20
  let v55 : Index := Scalar.indexCast v38
  let c0 : Index := 0#32
  let c0_43 : Index := 0#32
  ![v55.toNat, 0, 0]
def k0_off24 (i : grid0.Coords) : Fin 4 → Nat :=
  let arg0 : BitVec 32 := BitVec.ofNat 32 (i 0).val
  let c2_i32_17 : BitVec 32 := 2#32
  let v35 : BitVec 32 := Scalar.subi arg0 c2_i32_17
  let c4_i32_18 : BitVec 32 := 4#32
  let v36 : BitVec 32 := Scalar.remsi v35 c4_i32_18
  let v59 : Index := Scalar.indexCast v36
  let c0_44 : Index := 0#32
  let c0_45 : Index := 0#32
  let c0_46 : Index := 0#32
  ![v59.toNat, 0, 0, 0]
def k0_off25 (i : grid0.Coords) : Fin 2 → Nat :=
  let arg0 : BitVec 32 := BitVec.ofNat 32 (i 0).val
  let c2_i32_17 : BitVec 32 := 2#32
  let v35 : BitVec 32 := Scalar.subi arg0 c2_i32_17
  let c4_i32_18 : BitVec 32 := 4#32
  let v36 : BitVec 32 := Scalar.remsi v35 c4_i32_18
  let c1_i32_56 : BitVec 32 := 1#32
  ![v36.toNat, 1]
def k0_off26 (i : grid0.Coords) : Fin 4 → Nat :=
  let arg0 : BitVec 32 := BitVec.ofNat 32 (i 0).val
  let c2_i32_17 : BitVec 32 := 2#32
  let v35 : BitVec 32 := Scalar.subi arg0 c2_i32_17
  let c4_i32_18 : BitVec 32 := 4#32
  let v36 : BitVec 32 := Scalar.remsi v35 c4_i32_18
  let c1_i32_55 : BitVec 32 := 1#32
  let c0_i32_61 : BitVec 32 := 0#32
  let c0_i32_62 : BitVec 32 := 0#32
  ![v36.toNat, 1, 0, 0]
def k0_off27 (i : grid0.Coords) : Fin 3 → Nat :=
  let arg0 : BitVec 32 := BitVec.ofNat 32 (i 0).val
  let c2_i32_19 : BitVec 32 := 2#32
  let v37 : BitVec 32 := Scalar.subi arg0 c2_i32_19
  let c2_i32_20 : BitVec 32 := 2#32
  let v38 : BitVec 32 := Scalar.remsi v37 c2_i32_20
  let v93 : Index := Scalar.indexCast v38
  let c0_75 : Index := 0#32
  let c512 : Index := 512#32
  ![v93.toNat, 0, 512]
def k0_off28 (i : grid0.Coords) : Fin 4 → Nat :=
  let arg0 : BitVec 32 := BitVec.ofNat 32 (i 0).val
  let c2_i32_17 : BitVec 32 := 2#32
  let v35 : BitVec 32 := Scalar.subi arg0 c2_i32_17
  let c4_i32_18 : BitVec 32 := 4#32
  let v36 : BitVec 32 := Scalar.remsi v35 c4_i32_18
  let v97 : Index := Scalar.indexCast v36
  let c1 : Index := 1#32
  let c0_76 : Index := 0#32
  let c0_77 : Index := 0#32
  ![v97.toNat, 1, 0, 0]
def k0_cond9 (i : grid0.Coords) : BitVec 1 :=
  let arg0 : BitVec 32 := BitVec.ofNat 32 (i 0).val
  let c7_i32_15 : BitVec 32 := 7#32
  let v32 : BitVec 1 := Scalar.cmpi .sle arg0 c7_i32_15
  let v33 : BitVec 32 := Scalar.extui v32
  let c0_i32_16 : BitVec 32 := 0#32
  let v34 : BitVec 1 := Scalar.cmpi .ne v33 c0_i32_16
  v34

def k0_off29 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32 : BitVec 32 := 1024#32
  let v35 : BitVec 32 := Scalar.muli v2 c1024_i32
  let v36 : Index := Scalar.indexCast v35
  let c0 : Index := 0#32
  ![v36.toNat, 0]
def k0_off30 (i : grid0.Coords) : Fin 3 → Nat :=
  let arg0 : BitVec 32 := BitVec.ofNat 32 (i 0).val
  let c2_i32_19 : BitVec 32 := 2#32
  let v43 : BitVec 32 := Scalar.remsi arg0 c2_i32_19
  let v44 : Index := Scalar.indexCast v43
  let c0_20 : Index := 0#32
  let c0_21 : Index := 0#32
  ![v44.toNat, 0, 0]
def k0_cond7 (i : grid0.Coords) : BitVec 1 :=
  let arg0 : BitVec 32 := BitVec.ofNat 32 (i 0).val
  let c2_i32_85 : BitVec 32 := 2#32
  let v115 : BitVec 1 := Scalar.cmpi .eq arg0 c2_i32_85
  let v116 : BitVec 32 := Scalar.extui v115
  let c0_i32_86 : BitVec 32 := 0#32
  let v117 : BitVec 1 := Scalar.cmpi .ne v116 c0_i32_86
  v117

def k0_cond8 (i : grid0.Coords) : BitVec 1 :=
  let arg0 : BitVec 32 := BitVec.ofNat 32 (i 0).val
  let c2_i32_87 : BitVec 32 := 2#32
  let v118 : BitVec 1 := Scalar.cmpi .sgt arg0 c2_i32_87
  let v119 : BitVec 32 := Scalar.extui v118
  let c0_i32_88 : BitVec 32 := 0#32
  let v120 : BitVec 1 := Scalar.cmpi .ne v119 c0_i32_88
  v120

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S4096x4096 : Shape := ⟨2, ![4096, 4096]⟩
abbrev S4096x8192 : Shape := ⟨2, ![4096, 8192]⟩
abbrev S_ : Shape := ⟨0, ![]⟩
abbrev S4x8388608 : Shape := ⟨2, ![4, 8388608]⟩
abbrev S4 : Shape := ⟨1, ![4]⟩
abbrev S4x1 : Shape := ⟨2, ![4, 1]⟩
abbrev S4x128 : Shape := ⟨2, ![4, 128]⟩

abbrev nBuf : Space → Nat
  | .hbm => 14
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x8192, .bf16⟩
  | .hbm, ⟨2, _⟩ => ⟨S4096x4096, .f32⟩
  | .hbm, ⟨3, _⟩ => ⟨S4096x8192, .f32⟩
  | .hbm, ⟨4, _⟩ => ⟨S4096x8192, .f32⟩
  | .hbm, ⟨5, _⟩ => ⟨S_, .f32⟩
  | .hbm, ⟨6, _⟩ => ⟨S4096x8192, .f32⟩
  | .hbm, ⟨7, _⟩ => ⟨S4096x8192, .f32⟩
  | .hbm, ⟨8, _⟩ => ⟨S4096x8192, .f32⟩
  | .hbm, ⟨9, _⟩ => ⟨S4x8388608, .f32⟩
  | .hbm, ⟨10, _⟩ => ⟨S_, .f32⟩
  | .hbm, ⟨11, _⟩ => ⟨S4, .f32⟩
  | .hbm, ⟨12, _⟩ => ⟨S4x1, .f32⟩
  | .hbm, ⟨13, _⟩ => ⟨S4x128, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Proof.Proto.lean ====
/-
# The exchange's protocol: peers, views, cells, contents

Names for what the kernel's body touches on one device and on its two neighbours, and what every transfer carries.
A device `c` sends, for every column block `u` of the eight and each of two streams `s`:

* kind 0 (direct): half `s` of the partial product of its neighbour's rows, to that neighbour;
* kind 1 (relay): half `s` of the partial product of the opposite device's rows, to the other neighbour;
* kind 2 (combined): the relayed half plus its own partial product for the same rows, onward to the opposite device's neighbour.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.Rs

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Peers -/

/-- The neighbour of stream `s`: one device up for stream 0, one down for stream 1. -/
def nb (s : Fin 2) (c : Dev nD) : Dev nD := ⟨(c.val + 1 + 2 * s.val) % 4, Nat.mod_lt _ (by decide)⟩
/-- The opposite device. -/
def opp (c : Dev nD) : Dev nD := ⟨(c.val + 2) % 4, Nat.mod_lt _ (by decide)⟩
/-- Where device `c`'s transfer of kind `k`, stream `s`, goes. -/
def dst (k : Fin 3) (s : Fin 2) (c : Dev nD) : Dev nD := if k = 0 then nb s c else nb (1 - s) c
/-- Where what device `c` receives at kind `k`, stream `s`, comes from. -/
def fr (k : Fin 3) (s : Fin 2) (c : Dev nD) : Dev nD := if k = 0 then nb (1 - s) c else nb s c

theorem dst_fr : ∀ (k : Fin 3) (s : Fin 2) (c : Dev nD), dst k s (fr k s c) = c := by decide
theorem fr_dst : ∀ (k : Fin 3) (s : Fin 2) (c : Dev nD), fr k s (dst k s c) = c := by decide
theorem nb_nb : ∀ (s : Fin 2) (c : Dev nD), nb (1 - s) (nb s c) = c := by decide
theorem nb_nb' : ∀ (s : Fin 2) (c : Dev nD), nb s (nb (1 - s) c) = c := by decide

/-- Slots a receive buffer of kind `k` has. -/
def md (k : Fin 3) : ℕ := if k = 1 then 3 else 4
theorem md_pos (k : Fin 3) : 0 < md k := by revert k; decide
theorem md_le (k : Fin 3) : md k ≤ 4 := by revert k; decide
theorem le_md (k : Fin 3) : 3 ≤ md k := by revert k; decide

/-! ## Views -/

theorem inb4 {n : ℕ} (p : Fin n) (s : Fin 2) : ∀ a, (![p.val, s.val, 0, 0] : Fin 4 → ℕ) a + S1x1x1024x512.size a ≤ (⟨4, ![n, 2, 1024, 512]⟩ : Shape).size a := by
  intro a; fin_cases a
  · show p.val + 1 ≤ n; omega
  · show s.val + 1 ≤ 2; omega
  · exact Nat.le_refl 1024
  · exact Nat.le_refl 512

theorem inb3h (j h : Fin 2) : ∀ a, (![j.val, 0, 512 * h.val] : Fin 3 → ℕ) a + S1x1024x512.size a ≤ S2x1024x1024.size a := by
  revert j h; decide
theorem inb3p (j : Fin 2) : ∀ a, (![j.val, 0, 0] : Fin 3 → ℕ) a + S1x1024x1024.size a ≤ S2x1024x1024.size a := by
  revert j; decide
theorem inb3s (j : Fin 2) : ∀ a, (![j.val, 0, 0] : Fin 3 → ℕ) a + S1x1024x512.size a ≤ S2x1024x512.size a := by
  revert j; decide
theorem inbh (h : Fin 2) : ∀ a, (![0, 0, 512 * h.val] : Fin 3 → ℕ) a + S1x1024x512.size a ≤ S1x1024x1024.size a := by
  revert h; decide
theorem inbr (d : Dev nD) : ∀ a, (![1024 * d.val, 0] : Fin 2 → ℕ) a + S1024x1024.size a ≤ S4096x1024.size a := by
  revert d; decide
theorem inby (h : Fin 2) : ∀ a, (![0, 512 * h.val] : Fin 2 → ℕ) a + S1024x512.size a ≤ S1024x1024.size a := by
  revert h; decide

abbrev nbrB : Memref sig .tc .vmem S2x1024x1024 .bf16 := Memref.whole cc0_scratch0
abbrev ownB : Memref sig .tc .vmem S2x1024x1024 .bf16 := Memref.whole cc0_scratch1
abbrev rsndB : Memref sig .tc .vmem S2x1024x512 .bf16 := Memref.whole cc0_scratch2
abbrev csndB : Memref sig .tc .vmem S2x1024x512 .bf16 := Memref.whole cc0_scratch3
abbrev dirB : Memref sig .tc .vmem S4x2x1024x512 .bf16 := Memref.whole cc0_scratch4
abbrev relB : Memref sig .tc .vmem S3x2x1024x512 .bf16 := Memref.whole cc0_scratch5
abbrev comB : Memref sig .tc .vmem S4x2x1024x512 .bf16 := Memref.whole cc0_scratch6

/-- Half `h` of plane `j` of the neighbours' partial products. -/
abbrev nbrH (j h : Fin 2) : Memref sig .tc .vmem S1x1024x512 .bf16 :=
  nbrB.slice (Rect.unit (s := S2x1024x1024) ![j.val, 0, 512 * h.val] S1x1024x512.size (inb3h j h)) (fun _ => rfl)
/-- Plane `j` of the neighbours' partial products. -/
abbrev nbrP (j : Fin 2) : Memref sig .tc .vmem S1x1024x1024 .bf16 :=
  nbrB.slice (Rect.unit (s := S2x1024x1024) ![j.val, 0, 0] S1x1024x1024.size (inb3p j)) (fun _ => rfl)
/-- Plane `j` of the device's own partial products. -/
abbrev ownP (j : Fin 2) : Memref sig .tc .vmem S1x1024x1024 .bf16 :=
  ownB.slice (Rect.unit (s := S2x1024x1024) ![j.val, 0, 0] S1x1024x1024.size (inb3p j)) (fun _ => rfl)

/-- The source of the transfers of kind `k`, stream `s`, as a plane of its buffer; -/
def src3 (k : Fin 3) (s : Fin 2) : Memref sig .tc .vmem S1x1024x512 .bf16 := match k with
  | 0 => nbrH s s
  | 1 => rsndB.slice (Rect.unit (s := S2x1024x512) ![s.val, 0, 0] S1x1024x512.size (inb3s s)) (fun _ => rfl)
  | 2 => csndB.slice (Rect.unit (s := S2x1024x512) ![s.val, 0, 0] S1x1024x512.size (inb3s s)) (fun _ => rfl)
/-- as the transfer names it. -/
def src (k : Fin 3) (s : Fin 2) : Memref sig .tc .vmem S1024x512 .bf16 := (src3 k s).squeeze S1024x512 squeezes_S1x1024x512_S1024x512

/-- Slot `p`, stream `s`, of the buffer the direct, the relayed, the combined halves land in. -/
abbrev dirV (p : Fin 4) (s : Fin 2) : Memref sig .tc .vmem S1x1x1024x512 .bf16 :=
  dirB.slice (Rect.unit (s := S4x2x1024x512) ![p.val, s.val, 0, 0] S1x1x1024x512.size (inb4 p s)) (fun _ => rfl)
abbrev relV (p : Fin 3) (s : Fin 2) : Memref sig .tc .vmem S1x1x1024x512 .bf16 :=
  relB.slice (Rect.unit (s := S3x2x1024x512) ![p.val, s.val, 0, 0] S1x1x1024x512.size (inb4 p s)) (fun _ => rfl)
abbrev comV (p : Fin 4) (s : Fin 2) : Memref sig .tc .vmem S1x1x1024x512 .bf16 :=
  comB.slice (Rect.unit (s := S4x2x1024x512) ![p.val, s.val, 0, 0] S1x1x1024x512.size (inb4 p s)) (fun _ => rfl)
/-- The landing slot of block `u` of kind `k`, stream `s`, as a plane of its buffer; -/
def rslot4 (k : Fin 3) (u : ℕ) (s : Fin 2) : Memref sig .tc .vmem S1x1x1024x512 .bf16 := match k with
  | 0 => dirV ⟨u % 4, Nat.mod_lt _ (by decide)⟩ s
  | 1 => relV ⟨u % 3, Nat.mod_lt _ (by decide)⟩ s
  | 2 => comV ⟨u % 4, Nat.mod_lt _ (by decide)⟩ s
/-- as the transfer names it. -/
def rslot (k : Fin 3) (u : ℕ) (s : Fin 2) : Memref sig .tc .vmem S1024x512 .bf16 := (rslot4 k u s).squeeze S1024x512 squeezes_S1x1x1024x512_S1024x512

theorem rslot4_add_md (k : Fin 3) (u : ℕ) (s : Fin 2) : rslot4 k (u + md k) s = rslot4 k u s := by
  fin_cases k
  · exact congrArg (fun p => dirV p s) (Fin.ext (Nat.add_mod_right u 4))
  · exact congrArg (fun p => relV p s) (Fin.ext (Nat.add_mod_right u 3))
  · exact congrArg (fun p => comV p s) (Fin.ext (Nat.add_mod_right u 4))
theorem rslot_add_md (k : Fin 3) (u : ℕ) (s : Fin 2) : rslot k (u + md k) s = rslot k u s := by
  unfold rslot; rw [rslot4_add_md]

/-! ## Cells -/

/-- The runtime's barrier semaphore. -/
abbrev barS : Sem sig := (SemArray.scalar (sig.barrier 0 rfl) : Sems sig S_).sem

def bs (k : Fin 3) : ℕ := if k = 0 then 12 else if k = 1 then 20 else 26

theorem sS_lt (k : Fin 3) (s : Fin 2) : 6 + 2 * k.val + s.val < sig.nDmaSem := by revert k s; decide
theorem rS_lt (k : Fin 3) (u : ℕ) (s : Fin 2) : bs k + 2 * (u % md k) + s.val < sig.nDmaSem := by
  have h := Nat.mod_lt u (md_pos k)
  have h2 : ∀ k : Fin 3, bs k + 2 * md k ≤ 34 := by decide
  have := h2 k; have := s.isLt
  show _ < 34
  omega
/-- The semaphore that counts departures of kind `k`, stream `s`; -/
def sS (k : Fin 3) (s : Fin 2) : DmaSem sig := ⟨6 + 2 * k.val + s.val, sS_lt k s⟩
/-- the one that counts arrivals in the slot of block `u`. -/
def rS (k : Fin 3) (u : ℕ) (s : Fin 2) : DmaSem sig := ⟨bs k + 2 * (u % md k) + s.val, rS_lt k u s⟩

abbrev scell (k : Fin 3) (s : Fin 2) (c : Dev nD) : GSem nD τ sig := ((c : Thread nD τ), .dma (sS k s))
abbrev rcell (k : Fin 3) (u : ℕ) (s : Fin 2) (c : Dev nD) : GSem nD τ sig := ((c : Thread nD τ), .dma (rS k u s))
abbrev bcell (c : Dev nD) : GSem nD τ sig := ((c : Thread nD τ), .reg barS)

theorem rS_add_md (k : Fin 3) (u : ℕ) (s : Fin 2) : rS k (u + md k) s = rS k u s := by
  unfold rS; simp only [Nat.add_mod_right]

/-- Kind, slot and stream of a semaphore, read off its number. -/
def dk (q : DmaSem sig) : Fin 3 :=
  if q.val < 12 then (if q.val < 8 then 0 else if q.val < 10 then 1 else 2) else if q.val < 20 then 0 else if q.val < 26 then 1 else 2
def dp (q : DmaSem sig) : ℕ := (q.val - bs (dk q)) / 2
def ds (q : DmaSem sig) : Fin 2 := ⟨q.val % 2, Nat.mod_lt _ (by decide)⟩

theorem sS_val_lt (k : Fin 3) (s : Fin 2) : (sS k s).val < 12 := by revert k s; decide
theorem sS_val_ge (k : Fin 3) (s : Fin 2) : 6 ≤ (sS k s).val := by revert k s; decide
theorem dk_sS (k : Fin 3) (s : Fin 2) : dk (sS k s) = k := by revert k s; decide
theorem ds_sS (k : Fin 3) (s : Fin 2) : ds (sS k s) = s := by revert k s; decide

theorem rS_dec (k : Fin 3) (p : Fin 4) (s : Fin 2) (hp : p.val < md k) :
    12 ≤ (rS k p.val s).val ∧ dk (rS k p.val s) = k ∧ ds (rS k p.val s) = s ∧ dp (rS k p.val s) = p.val := by
  revert k p s; decide
theorem rS_mod (k : Fin 3) (u : ℕ) (s : Fin 2) : rS k u s = rS k (u % md k) s := by
  unfold rS; simp only [Nat.mod_mod]
theorem rS_dec' (k : Fin 3) (u : ℕ) (s : Fin 2) :
    12 ≤ (rS k u s).val ∧ dk (rS k u s) = k ∧ ds (rS k u s) = s ∧ dp (rS k u s) = u % md k := by
  have h := Nat.mod_lt u (md_pos k)
  have h4 : u % md k < 4 := lt_of_lt_of_le h (md_le k)
  rw [rS_mod]
  exact rS_dec k ⟨u % md k, h4⟩ s h

/-! ## Contents -/

/-- A block carried over a transfer, read as the source plane's shape. -/
def sq3 {α : Type} (Y : S1x1024x512.Idx → α) : S1024x512.Idx → α :=
  fun j => Y (Shape.reshapeEquiv squeezes_S1x1024x512_S1024x512.numel_eq j)
/-- The same, laid out as the landing slot's shape. -/
def rc4 {α : Type} (X : S1024x512.Idx → α) : S1x1x1024x512.Idx → α :=
  fun j => X ((Shape.reshapeEquiv squeezes_S1x1x1024x512_S1024x512.numel_eq).symm j)
/-- Half `h` of a plane. -/
def half {α : Type} (h : Fin 2) (Y : S1x1024x1024.Idx → α) : S1x1024x512.Idx → α :=
  fun j => Y ((Rect.unit (s := S1x1024x1024) ![0, 0, 512 * h.val] S1x1024x512.size (inbh h)).emb j)

/-- Rows of device `d`'s block within the device's whole `x` block. -/
abbrev rowR (d : Dev nD) : Rect S4096x1024 := Rect.unit (s := S4096x1024) ![1024 * d.val, 0] S1024x1024.size (inbr d)

/-- The grid point of a step number. -/
def pt (u : ℕ) : Fin cfg0.N := ⟨u % 10, lt_of_lt_of_eq (Nat.mod_lt _ (by decide)) N_0.symm⟩
theorem pt_val (t : Fin cfg0.N) : pt t.val = t := Fin.ext (Nat.mod_eq_of_lt (lt_of_lt_of_eq t.isLt N_0))

variable (m : (ℓ : Loc nD τ sig) → Buf (Elt F) ℓ)

/-- Device `c`'s columns of `x`, as its kernel is given them; -/
def xblk (c : Dev nD) : S4096x1024.Idx → Elt F .bf16 := (win0_0.blk (pt 0)).view.read (Elt F) (m ((c : Thread nD τ).loc main_arg0))
/-- the rows of device `d` of them; -/
def xrow (c d : Dev nD) : S1024x1024.Idx → Elt F .bf16 := fun j => xblk m c ((rowR d).emb j)
/-- column block `u` of its rows of `w`. -/
def wblk (c : Dev nD) (u : ℕ) : S1024x1024.Idx → Elt F .bf16 := (win0_1.blk (pt u)).view.read (Elt F) (m ((c : Thread nD τ).loc main_arg1))

/-- Device `c`'s partial product for column block `u` and the rows of its stream-`j` neighbour. -/
def nbrM (c : Dev nD) (u : ℕ) (j : Fin 2) : S1x1024x1024.Idx → Elt F .bf16 :=
  if j = 0 then k0_pay9 (wblk m c u) (xrow m c (nb 0 c)) else k0_pay10 (wblk m c u) (xrow m c (nb 1 c))
/-- Its partial product for column block `u` and its own rows. -/
def ownM (c : Dev nD) (u : ℕ) : S1x1024x1024.Idx → Elt F .bf16 := k0_pay5 (xrow m c c) (wblk m c u)
/-- Half `s` of its partial product for column block `u` and the opposite device's rows. -/
def oppM (c : Dev nD) (u : ℕ) (s : Fin 2) : S1x1024x512.Idx → Elt F .bf16 :=
  if s = 0 then k0_pay11 (k0_pay8 (wblk m c u)) (xrow m c (opp c)) else k0_pay16 (k0_pay8 (wblk m c u)) (xrow m c (opp c))
/-- What it passes on: its own half for those rows plus the half relayed to it. -/
def comM (c : Dev nD) (u : ℕ) (s : Fin 2) : S1x1024x512.Idx → Elt F .bf16 :=
  if s = 0 then k0_pay6 (half 0 (nbrM m c u 1)) (rc4 (sq3 (oppM m (fr 1 0 c) u 0)))
  else k0_pay7 (half 1 (nbrM m c u 0)) (rc4 (sq3 (oppM m (fr 1 1 c) u 1)))

/-- What device `c`'s transfer of kind `k`, block `u`, stream `s`, carries. -/
def val (k : Fin 3) (u : ℕ) (s : Fin 2) (c : Dev nD) : S1x1024x512.Idx → Elt F .bf16 := match k with
  | 0 => half s (nbrM m c u s)
  | 1 => oppM m c u s
  | 2 => comM m c u s

/-- What device `c` finds in its slot of kind `k`, block `u`, stream `s`. -/
def got (k : Fin 3) (u : ℕ) (s : Fin 2) (c : Dev nD) : S1x1x1024x512.Idx → Elt F .bf16 := rc4 (sq3 (val m k u s (fr k s c)))

/-- Half 0 and half 1 of the rectified sum of block `u`; -/
def yL (c : Dev nD) (u : ℕ) : S1024x512.Idx → Elt F .f32 :=
  k0_pay14 (k0_pay12 (half 0 (ownM m c u))) (k0_pay13 (got m 0 u 0 c)) (got m 2 u 0 c)
def yR (c : Dev nD) (u : ℕ) : S1024x512.Idx → Elt F .f32 := k0_pay1 (half 1 (ownM m c u)) (got m 0 u 1 c) (got m 2 u 1 c)
/-- the maximum over its half 0, over half 1's sign (the kernel's running scalar). -/
def aL (c : Dev nD) (u : ℕ) : F .f32 :=
  k0_pay15 (k0_pay12 (half 0 (ownM m c u))) (k0_pay13 (got m 0 u 0 c)) (got m 2 u 0 c)

/-- The block's two halves side by side. -/
def yM (c : Dev nD) (u : ℕ) : S1024x1024.Idx → Elt F .f32 := fun i =>
  if h : (i 1).val < 512 then yL m c u (fun a => match a with | 0 => i 0 | 1 => ⟨(i 1).val, h⟩)
  else yR m c u (fun a => match a with | 0 => i 0 | 1 => ⟨(i 1).val - 512, by have := (i 1).isLt; change (i 1).val < 1024 at this; show _ < 512; omega⟩)

/-- The running maximum after block `u`. -/
def aM (c : Dev nD) : ℕ → S1x128.Idx → Elt F .f32
  | 0 => k0_pay3 (aL m c 0) (half 1 (ownM m c 0)) (got m 0 0 1 c) (got m 2 0 1 c)
  | u + 1 => k0_pay4 (aL m c (u + 1)) (half 1 (ownM m c (u + 1))) (got m 0 (u + 1) 1 c) (got m 2 (u + 1) 1 c) (aM c u)

end Cert.Rs
-- ==== Proof.Sched.lean ====
/-
# The exchange's schedule: what every counted unit hands over, in what order waits may come, and what is owed when
-/
module

public import proofs.«01_k».proof.Proof.Proto

@[expose] public section

noncomputable section

namespace Cert.Rs

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

abbrev UB : Type := URounds (GSem nD τ sig) (Fin 2)
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

variable (m : (ℓ : Loc nD τ sig) → Buf (Elt F) ℓ)

/-- The credit of one transfer: every one carries a block of the same shape. -/
abbrev N : ℕ := (rslot 0 0 0).view.dmaCredit
theorem N_pos : 0 < N := View.dmaCredit_pos _ (by decide)
theorem credit_rslot (k : Fin 3) (u : ℕ) (s : Fin 2) : (rslot k u s).view.dmaCredit = N := by fin_cases k <;> rfl
theorem credit_src (k : Fin 3) (s : Fin 2) : (src k s).view.dmaCredit = N := by fin_cases k <;> rfl

/-! ## Payloads -/

/-- Some contents held through a view. -/
def anyAt (c : Dev nD) {sh : Shape} {e : EltTy} (v : Memref sig .tc .vmem sh e) : sProp 𝕄 := iprop(∃ X, owns (c : Thread nD τ) v fullShare X)

/-- Leave to write block `u` of kind `k`, stream `s`, on device `p`: the slot and that `p` is at that round of its cell. -/
def permit (k : Fin 3) (u : ℕ) (s : Fin 2) (p : Dev nD) : sProp 𝕄 :=
  iprop(anyAt p (rslot k u s) ∗ reached ER (rcell k u s p) (u / md k))

/-- The leaves device `c` gets from its stream-`s` neighbour for block `u`. -/
def permits (u : ℕ) (s : Fin 2) (c : Dev nD) : sProp 𝕄 :=
  iprop(permit 0 u s (nb s c) ∗ permit 1 u (1 - s) (nb s c) ∗ permit 2 u (1 - s) (nb s c))

/-- A departure hands the source back. -/
def sendPay (k : Fin 3) (s : Fin 2) (c : Dev nD) : sProp 𝕄 := anyAt c (src k s)

/-- An arrival hands the slot with what was carried; a relayed one also the leaves for the next block. -/
def recvPay (k : Fin 3) (u : ℕ) (s : Fin 2) (c : Dev nD) : sProp 𝕄 :=
  iprop(owns (c : Thread nD τ) (rslot k u s) fullShare (sq3 (val m k u s (fr k s c)))
    ∗ (if k = 1 ∧ u + 1 < 8 then permits (u + 1) s c else iprop(emp)))

instance anyAt_storable (c : Dev nD) {sh : Shape} {e : EltTy} (v : Memref sig .tc .vmem sh e) :
    BI.Storable (upEmb : UEmb _ 𝕄) (anyAt c v) := by unfold anyAt; infer_instance
instance permit_storable (k : Fin 3) (u : ℕ) (s : Fin 2) (p : Dev nD) :
    BI.Storable (upEmb : UEmb _ 𝕄) (permit (F := F) k u s p) := by unfold permit; infer_instance
instance permits_storable (u : ℕ) (s : Fin 2) (p : Dev nD) :
    BI.Storable (upEmb : UEmb _ 𝕄) (permits (F := F) u s p) := by unfold permits; infer_instance
instance sendPay_storable (k : Fin 3) (s : Fin 2) (c : Dev nD) :
    BI.Storable (upEmb : UEmb _ 𝕄) (sendPay (F := F) k s c) := by unfold sendPay; infer_instance
instance recvPay_storable (k : Fin 3) (u : ℕ) (s : Fin 2) (c : Dev nD) :
    BI.Storable (upEmb : UEmb _ 𝕄) (recvPay m k u s c) := by
  unfold recvPay
  have : BI.Storable (upEmb : UEmb _ 𝕄) (if k = 1 ∧ u + 1 < 8 then permits (F := F) (u + 1) s c else iprop(emp)) := by
    split <;> infer_instance
  infer_instance

/-! ## The schedule -/

def duts (g : GSem nD τ sig) (r : ℕ) : Finset (Fin 2) := match g.2 with
  | .reg q => if g.1.2 = .tc ∧ q = barS ∧ r = 0 then Finset.univ else ∅
  | .dma q => if g.1.2 = .tc ∧ 6 ≤ q.val ∧ (q.val < 12 ∧ r < 8 ∨ 12 ≤ q.val ∧ dp q + md (dk q) * r < 8) then {0} else ∅

def amt (g : GSem nD τ sig) : ℕ := match g.2 with
  | .reg _ => 1
  | .dma _ => N

def pay (g : GSem nD τ sig) (r : ℕ) (d : Fin 2) : sProp 𝕄 := match g.2 with
  | .reg _ => permits 0 d g.1.1
  | .dma q => if q.val < 12 then sendPay (dk q) (ds q) g.1.1 else recvPay m (dk q) (dp q + md (dk q) * r) (ds q) g.1.1

/-- Barrier cells: one round, a unit from each neighbour. Departure cells: eight rounds of one transfer. Arrival cells: a round
    for every block their slot carries. -/
def Rd : Rounds.Schedule (GSem nD τ sig) (Fin 2) 𝕄 where
  duties := duts
  unitless _ := False
  amount g _ _ := amt g
  payload := pay m
  amount_pos g _ _ _ := by
    unfold amt
    split
    · exact Nat.one_pos
    · exact N_pos

instance Rd_storable (g : GSem nD τ sig) (r : ℕ) (d : Fin 2) : BI.Storable (upEmb : UEmb _ 𝕄) ((Rd (F := F) m).payload g r d) := by
  show BI.Storable upEmb (pay m g r d)
  unfold pay
  split
  · infer_instance
  · split <;> infer_instance

section
variable (k : Fin 3) (u : ℕ) (s : Fin 2) (c : Dev nD)

theorem duties_bar : (Rd (F := F) m).duties (bcell c) 0 = Finset.univ := by
  show (if (c : Thread nD τ).2 = .tc ∧ barS = barS ∧ 0 = 0 then Finset.univ else ∅) = _
  exact if_pos ⟨rfl, rfl, rfl⟩
theorem duties_bar_later (r : ℕ) (h : 1 ≤ r) : (Rd (F := F) m).duties (bcell c) r = ∅ := if_neg fun h' => by have := h'.2.2; omega
theorem duties_send (h : u < 8) : (Rd (F := F) m).duties (scell k s c) u = {0} := if_pos ⟨rfl, sS_val_ge k s, .inl ⟨sS_val_lt k s, h⟩⟩
theorem duties_send_later (r : ℕ) (h : 8 ≤ r) : (Rd (F := F) m).duties (scell k s c) r = ∅ := if_neg fun h' => by
  have := sS_val_lt k s
  rcases h'.2.2 with h'' | h'' <;> omega
theorem duties_recv (h : u < 8) : (Rd (F := F) m).duties (rcell k u s c) (u / md k) = {0} := by
  obtain ⟨h12, h1, h2, h3⟩ := rS_dec' k u s
  refine if_pos ⟨rfl, by omega, .inr ⟨h12, ?_⟩⟩
  show dp (rS k u s) + md (dk (rS k u s)) * (u / md k) < 8
  rw [h1, h3, Nat.mod_add_div]; exact h
theorem duties_recv_later (h : 8 ≤ u) (r : ℕ) (hr : u / md k ≤ r) : (Rd (F := F) m).duties (rcell k u s c) r = ∅ := by
  obtain ⟨h12, h1, h2, h3⟩ := rS_dec' k u s
  refine if_neg fun h' => ?_
  rcases h'.2.2 with h'' | h''
  · omega
  · have h4 : dp (rS k u s) + md (dk (rS k u s)) * r < 8 := h''.2
    rw [h1, h3] at h4
    have := Nat.mod_add_div u (md k)
    have := Nat.mul_le_mul_left (md k) hr
    omega

theorem expect_bar : (Rd (F := F) m).expect (bcell c) 0 = 2 := by
  unfold Schedule.expect Schedule.amountOf; rw [duties_bar]; rfl
theorem expect_send (h : u < 8) : (Rd (F := F) m).expect (scell k s c) u = N := by
  unfold Schedule.expect Schedule.amountOf; rw [duties_send m k u s c h, Finset.sum_singleton]; rfl
theorem expect_recv (h : u < 8) : (Rd (F := F) m).expect (rcell k u s c) (u / md k) = N := by
  unfold Schedule.expect Schedule.amountOf; rw [duties_recv m k u s c h, Finset.sum_singleton]; rfl

theorem payload_send (r : ℕ) (d : Fin 2) : (Rd m).payload (scell k s c) r d = sendPay k s c := by
  show (if (sS k s).val < 12 then sendPay (dk (sS k s)) (ds (sS k s)) c else _) = _
  rw [if_pos (sS_val_lt k s), dk_sS, ds_sS]
theorem payload_recv (d : Fin 2) : (Rd m).payload (rcell k u s c) (u / md k) d = recvPay m k u s c := by
  obtain ⟨h12, h1, h2, h3⟩ := rS_dec' k u s
  show (if (rS k u s).val < 12 then _ else recvPay m (dk (rS k u s)) (dp (rS k u s) + md (dk (rS k u s)) * (u / md k)) (ds (rS k u s)) c) = _
  rw [if_neg (by omega), h1, h2, h3, Nat.mod_add_div]

theorem rest_bar : bigSep ((Rd m).duties (bcell c) 0 \ ∅) (fun d => (Rd m).payload (bcell c) 0 d) = iprop(permits 0 0 c ∗ permits 0 1 c) := by
  rw [Finset.sdiff_empty, duties_bar, bigSep_univ_eq_bigSepL [0, 1] (by decide) (by decide), bigSepL_cons_cons, bigSepL_singleton]
  rfl
theorem rest_send (h : u < 8) : bigSep ((Rd m).duties (scell k s c) u \ ∅) (fun d => (Rd m).payload (scell k s c) u d) = sendPay k s c := by
  rw [Finset.sdiff_empty, duties_send m k u s c h]; exact bigSep_singleton.trans (payload_send m k s c u 0)
theorem rest_recv (h : u < 8) :
    bigSep ((Rd m).duties (rcell k u s c) (u / md k) \ ∅) (fun d => (Rd m).payload (rcell k u s c) (u / md k) d) = recvPay m k u s c := by
  rw [Finset.sdiff_empty, duties_recv m k u s c h]; exact bigSep_singleton.trans (payload_recv m k u s c 0)
end

/-! ## Levels and what is owed -/

/-- A cell's place in the order waits respect: a wait at a level is made owing only above it. -/
def lv (g : GSem nD τ sig) (u : ℕ) : ℕ := match g.2 with
  | .reg _ => 1
  | .dma q => if q.val < 12 then 0 else if dk q = 2 then 2 * u + 3 else 2 * u + 2
def L (g : GSem nD τ sig) : Finset ℕ := if g.1.2 = .tc then Finset.range 8 else ∅

theorem L_of_ne (g : GSem nD τ sig) (h : g.1.2 ≠ .tc) : L g = ∅ := if_neg h
theorem mem_L (c : Dev nD) (sm : SemLoc sig) (u : ℕ) (h : u < 8) : u ∈ L ((c : Thread nD τ), sm) := by
  rw [show L ((c : Thread nD τ), sm) = Finset.range 8 from if_pos rfl]; exact Finset.mem_range.mpr h

theorem lv_send (k : Fin 3) (s : Fin 2) (c : Dev nD) (u : ℕ) : lv (scell k s c) u = 0 := if_pos (sS_val_lt k s)
theorem lv_recv (k : Fin 3) (u : ℕ) (s : Fin 2) (c : Dev nD) : lv (rcell k u s c) u = if k = 2 then 2 * u + 3 else 2 * u + 2 := by
  obtain ⟨h12, h1, h2, h3⟩ := rS_dec' k u s
  show (if (rS k u s).val < 12 then 0 else if dk (rS k u s) = 2 then _ else _) = _
  rw [if_neg (by omega), h1]

/-- Everything owed lies above level `n`. -/
def Above (n : ℕ) (O : CellTallies nD τ sig ℕ) : Prop := ∀ g u, 0 < O g u → u ∈ L g ∧ n < lv g u

theorem Above.zero (n : ℕ) : Above n 0 := fun g u h => absurd h (Nat.lt_irrefl 0)
theorem Above.add {n : ℕ} {O O' : CellTallies nD τ sig ℕ} (h : Above n O) (h' : Above n O') : Above n (O + O') := fun g u hp => by
  rw [Pi.add_apply, Finsupp.add_apply] at hp
  rcases Nat.eq_zero_or_pos (O g u) with hz | hz
  · exact h' g u (by omega)
  · exact h g u hz
theorem Above.sum {n : ℕ} {α : Type} [DecidableEq α] (S : Finset α) (O : α → CellTallies nD τ sig ℕ) (h : ∀ a ∈ S, Above n (O a)) : Above n (∑ a ∈ S, O a) := by
  induction S using Finset.induction_on with
  | empty => rw [Finset.sum_empty]; exact Above.zero n
  | insert a S ha ih =>
    rw [Finset.sum_insert ha]
    exact (h a (Finset.mem_insert_self _ _)).add (ih fun b hb => h b (Finset.mem_insert_of_mem hb))
theorem Above.tally {n : ℕ} {g : GSem nD τ sig} {u k : ℕ} (hL : u ∈ L g) (hlv : n < lv g u) : Above n (tallyAt g u k) := fun g' u' hp => by
  obtain ⟨rfl, rfl⟩ := Pipeline.tallyAt_pos hp
  exact ⟨hL, hlv⟩

omit [FloatOps F] in
theorem mayWait_of_above {c : Dev nD} {sm : SemLoc sig} {ι : ℕ} {O : CellTallies nD τ sig ℕ} (hι : ι < 8)
    (h : Above (lv ((c : Thread nD τ), sm) ι) O) : (levAts L lv : sProp 𝕄) ⊢ MayWait (c : Thread nD τ) sm ι O :=
  MayOwe.of_cut (L := L) (lev := lv) (lv ((c : Thread nD τ), sm) ι)
    (fun p hp => by rw [Finset.mem_singleton.mp hp]; exact mem_L c sm ι hι)
    (fun g u hg => (h g u hg).1)
    (fun p hp => by rw [Finset.mem_singleton.mp hp])
    (fun g u hg => (h g u hg).2)

/-- What device `c` owes for its transfer of kind `k`, stream `s`, block `u`. -/
def due (c : Dev nD) (k : Fin 3) (u : ℕ) (s : Fin 2) : CellTallies nD τ sig ℕ := tallyAt (rcell k u s (dst k s c)) u N

/-- Direct and relayed transfers of the blocks from `a` on; -/
def OD (c : Dev nD) (a : ℕ) : CellTallies nD τ sig ℕ := ∑ u ∈ Finset.Ico a 8, (due c 1 u 1 + due c 0 u 1 + due c 1 u 0 + due c 0 u 0)
/-- combined ones. -/
def OC (c : Dev nD) (a : ℕ) : CellTallies nD τ sig ℕ := ∑ u ∈ Finset.Ico a 8, (due c 2 u 1 + due c 2 u 0)

theorem Ico_bot {a b : ℕ} (h : a < b) : Finset.Ico a b = insert a (Finset.Ico (a + 1) b) := by
  ext x; simp only [Finset.mem_insert, Finset.mem_Ico]; omega
theorem Ico_top {a b : ℕ} (h : a ≤ b) : Finset.Ico a (b + 1) = insert b (Finset.Ico a b) := by
  ext x; simp only [Finset.mem_insert, Finset.mem_Ico]; omega
theorem bot_notMem (a b : ℕ) : a ∉ Finset.Ico (a + 1) b := fun h => by have := Finset.mem_Ico.mp h; omega
theorem top_notMem (a b : ℕ) : b ∉ Finset.Ico a b := fun h => by have := Finset.mem_Ico.mp h; omega

theorem OD_succ (c : Dev nD) {a : ℕ} (h : a < 8) : OD c a = OD c (a + 1) + (due c 1 a 1 + due c 0 a 1 + due c 1 a 0 + due c 0 a 0) := by
  unfold OD; rw [Ico_bot h, Finset.sum_insert (bot_notMem a 8), add_comm]
theorem OC_succ (c : Dev nD) {a : ℕ} (h : a < 8) : OC c a = OC c (a + 1) + (due c 2 a 1 + due c 2 a 0) := by
  unfold OC; rw [Ico_bot h, Finset.sum_insert (bot_notMem a 8), add_comm]

theorem above_due (c : Dev nD) (k : Fin 3) (u : ℕ) (s : Fin 2) {n : ℕ} (hu : u < 8) (h : n < if k = 2 then 2 * u + 3 else 2 * u + 2) :
    Above n (due c k u s) := Above.tally (mem_L _ _ u hu) (by rw [lv_recv]; exact h)
theorem above_OD (c : Dev nD) {a n : ℕ} (h : n < 2 * a + 2) : Above n (OD c a) :=
  Above.sum _ _ fun u hu => by
    have := Finset.mem_Ico.mp hu
    refine (((above_due c 1 u 1 (by omega) ?_).add (above_due c 0 u 1 (by omega) ?_)).add (above_due c 1 u 0 (by omega) ?_)).add (above_due c 0 u 0 (by omega) ?_)
      <;> (rw [if_neg (by decide)]; omega)
theorem above_OC (c : Dev nD) {a n : ℕ} (h : n < 2 * a + 3) : Above n (OC c a) :=
  Above.sum _ _ fun u hu => by
    have := Finset.mem_Ico.mp hu
    refine (above_due c 2 u 1 (by omega) ?_).add (above_due c 2 u 0 (by omega) ?_) <;> (rw [if_pos rfl]; omega)

/-- What device `c` owes before step `t`; at the first, also a unit to each neighbour's barrier. -/
def owed (c : Dev nD) (t : ℕ) : CellTallies nD τ sig ℕ := OD c (min t 8) + OC c (t - 1)
def owed₀ (c : Dev nD) : CellTallies nD τ sig ℕ := owed c 0 + tallyAt (bcell (nb 1 c)) 0 1 + tallyAt (bcell (nb 0 c)) 0 1

theorem above_bar (c : Dev nD) : Above 0 (tallyAt (bcell c) 0 1) := Above.tally (mem_L _ _ 0 (by decide)) Nat.zero_lt_one
theorem above_owed (c : Dev nD) (t : ℕ) : Above 1 (owed c t) := (above_OD c (by omega)).add (above_OC c (by omega))
theorem Above.mono {n n' : ℕ} (h : n ≤ n') {O : CellTallies nD τ sig ℕ} (hO : Above n' O) : Above n O := fun g u hp => ⟨(hO g u hp).1, lt_of_le_of_lt h (hO g u hp).2⟩
theorem above_owed₀ (c : Dev nD) : Above 0 (owed₀ c) := (((above_owed c 0).mono (by decide)).add (above_bar _)).add (above_bar _)
theorem owed_end (c : Dev nD) : owed c 10 = 0 := by
  unfold owed OD OC
  rw [show Finset.Ico (min 10 8) 8 = ∅ from rfl, show Finset.Ico (10 - 1) 8 = ∅ from rfl, Finset.sum_empty, Finset.sum_empty, add_zero]

/-! ## The cells of a device, and the records of all -/

abbrev csem : Fin 29 → SemLoc sig := fun j => if h : j.val < 28 then .dma ⟨6 + j.val, by show _ < 34; omega⟩ else .reg barS
abbrev kcell (cj : Dev nD × Fin 29) : GSem nD τ sig := ((cj.1 : Thread nD τ), csem cj.2)

/-- The cells' numbers. -/
def jS (k : Fin 3) (s : Fin 2) : Fin 29 := ⟨(sS k s).val - 6, by have := sS_val_lt k s; omega⟩
def jR (k : Fin 3) (u : ℕ) (s : Fin 2) : Fin 29 := ⟨(rS k u s).val - 6, by have := (rS k u s).isLt; change _ < 34 at this; omega⟩
def jB : Fin 29 := 28
theorem kcell_S (k : Fin 3) (s : Fin 2) (c : Dev nD) : kcell (c, jS k s) = scell k s c := by
  have h1 := sS_val_lt k s; have h2 := sS_val_ge k s
  refine Prod.ext rfl ?_
  show csem (jS k s) = _
  unfold csem jS
  rw [dif_pos (show (sS k s).val - 6 < 28 by omega)]
  exact congrArg SemLoc.dma (Fin.ext (show 6 + ((sS k s).val - 6) = (sS k s).val by omega))
theorem kcell_R (k : Fin 3) (u : ℕ) (s : Fin 2) (c : Dev nD) : kcell (c, jR k u s) = rcell k u s c := by
  have h1 := (rS_dec' k u s).1; have h2 := (rS k u s).isLt; change _ < 34 at h2
  refine Prod.ext rfl ?_
  show csem (jR k u s) = _
  unfold csem jR
  rw [dif_pos (show (rS k u s).val - 6 < 28 by omega)]
  exact congrArg SemLoc.dma (Fin.ext (show 6 + ((rS k u s).val - 6) = (rS k u s).val by omega))
theorem kcell_B (c : Dev nD) : kcell (c, jB) = bcell c := rfl

/-- Every cell's invariant, under the names `K`, and that every cell has reached its first round. -/
def records (K : Dev nD × Fin 29 → ℕ) : sProp 𝕄 :=
  iprop((bigSep Finset.univ fun cj : Dev nD × Fin 29 => cellInv ER (Rd m) (K cj) (kcell cj))
    ∗ bigSep Finset.univ fun cj : Dev nD × Fin 29 => reached ER (kcell cj) 0)

instance records_persistent (K : Dev nD × Fin 29 → ℕ) : BI.Persistent (records m K) := by unfold records; infer_instance

theorem inv_at (K : Dev nD × Fin 29 → ℕ) (c : Dev nD) (j : Fin 29) {g : GSem nD τ sig} (h : kcell (c, j) = g) :
    records m K ⊢ cellInv ER (Rd m) (K (c, j)) g := by
  subst h
  unfold records
  exact sep_elim_left.trans (bigSep_elim (Finset.mem_univ (c, j)))
theorem reached_at (K : Dev nD × Fin 29 → ℕ) (c : Dev nD) (j : Fin 29) {g : GSem nD τ sig} (h : kcell (c, j) = g) :
    records m K ⊢ reached ER g 0 := by
  subst h
  unfold records
  exact sep_elim_right.trans (bigSep_elim (Finset.mem_univ (c, j)))

end Cert.Rs
-- ==== Proof.Mem.lean ====
/-
# Loads, stores and cuts of owned views
-/
module

public import proofs.«01_k».proof.Proof.Sched

@[expose] public section

noncomputable section

namespace Cert.Rs

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

abbrev 𝒱₀ : Variants := Variants.none

/-- The weakest precondition of a kernel program on device `c`. -/
abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

abbrev OWN {sh : Shape} {e : EltTy} (c : Dev nD) (v : Memref sig .tc .vmem sh e) (X : sh.Idx → Elt F e) : sProp 𝕄 :=
  owns (c : Thread nD τ) v fullShare X

section Access
variable {s : Shape} {e : EltTy} {α : Type} (c : Dev nD)

/-- A load through a rectangle of an owned memref reads its contents there. -/
theorem wp_loadW {Q : α → sProp 𝕄} {v : Memref sig .tc .vmem s e} {r : Rect s} {hl : v.view.LoadsAt r.toLoadRect}
    {k : (r.shape.Idx → Elt F e) → Prog (TpuEff nD τ sig (Elt F) Λ₀ .tc) α} {X : s.Idx → Elt F e} :
    OWN c v X ⊢ iprop((OWN c v X -∗ WP c (k fun j => X (r.emb j)) Q) -∗ WP c (.op (.load v r.toLoadRect hl) k) Q) := by
  unfold OWN owns
  iintro ⟨%f, %hf, H⟩ Hk
  iapply (wp_load 𝒱₀ (c : Thread nD τ) none Set.univ (m := v) (r := r.toLoadRect) (S := v.view.set) (View.setOn_subset_set _ _)) $$ H
  iintro H
  have h : v.view.readAt (Elt F) r.toLoadRect f = fun j => X (r.emb j) := by subst hf; rfl
  rw [h]
  iapply Hk
  iexists f
  isplitr
  · ipureintro; exact hf
  · iexact H

/-- A load through the rectangle one owns reads what one holds. -/
theorem wp_loadS {Q : α → sProp 𝕄} {v : Memref sig .tc .vmem s e} {off off' size : Fin s.rank → ℕ} {inb : ∀ a, off a + size a ≤ s.size a} {inb' : ∀ a, off' a + size a ≤ s.size a}
    (h : off = off') {hs : ∀ a, (Rect.unit off' size inb').stride a = 1} {hl : v.view.LoadsAt (Rect.unit off size inb).toLoadRect}
    {k : ((Rect.unit off size inb).shape.Idx → Elt F e) → Prog (TpuEff nD τ sig (Elt F) Λ₀ .tc) α} {X : (⟨s.rank, size⟩ : Shape).Idx → Elt F e} :
    OWN c (v.slice (Rect.unit off' size inb') hs) X
      ⊢ iprop((OWN c (v.slice (Rect.unit off' size inb') hs) X -∗ WP c (k X) Q) -∗ WP c (.op (.load v (Rect.unit off size inb).toLoadRect hl) k) Q) := by
  subst h
  unfold OWN owns
  iintro ⟨%f, %hf, H⟩ Hk
  iapply (wp_load_rect 𝒱₀ (c : Thread nD τ) none Set.univ (m := v) (r := Rect.unit off size inb) (Finset.Subset.refl _)) $$ H
  iintro H
  have h : (v.access (Rect.unit off size inb)).read (Elt F) f = X := hf
  rw [h]
  iapply Hk
  iexists f
  isplitr
  · ipureintro; exact hf
  · iexact H

/-- A store through the rectangle one owns: one holds what was stored. -/
theorem wp_storeS {Q : α → sProp 𝕄} {v : Memref sig .tc .vmem s e} {off off' size : Fin s.rank → ℕ} {inb : ∀ a, off a + size a ≤ s.size a} {inb' : ∀ a, off' a + size a ≤ s.size a}
    (h : off = off') {hs : ∀ a, (Rect.unit off' size inb').stride a = 1} {w : (Rect.unit off size inb).shape.Idx → Elt F e} {hx} {hm}
    {k : PUnit → Prog (TpuEff nD τ sig (Elt F) Λ₀ .tc) α} :
    anyAt c (v.slice (Rect.unit off' size inb') hs)
      ⊢ iprop((OWN c (v.slice (Rect.unit off' size inb') hs) w -∗ WP c (k ⟨⟩) Q) -∗ WP c (.op (.store v (Rect.unit off size inb) w Finset.univ hx hm) k) Q) := by
  subst h
  unfold anyAt OWN owns
  iintro ⟨%X, %f, %hf, H⟩ Hk
  iapply (wp_store 𝒱₀ (c : Thread nD τ) none Set.univ (m := v) (r := Rect.unit off size inb) (Mk := Finset.univ) (S := (v.access (Rect.unit off size inb)).set) (View.setOn_subset_set _ _)) $$ H
  iintro H
  iapply Hk
  iexists _
  isplitr
  · ipureintro; exact View.read_write_univ (v := v.access (Rect.unit off size inb)) f w
  · iexact H

/-- A store through a rectangle of an owned memref: the rectangle holds what was stored, the rest what it held. -/
theorem wp_storeW {Q : α → sProp 𝕄} {v : Memref sig .tc .vmem s e} {r : Rect s} {w : r.shape.Idx → Elt F e} {hx} {hm}
    {k : PUnit → Prog (TpuEff nD τ sig (Elt F) Λ₀ .tc) α} {X : s.Idx → Elt F e} :
    OWN c v X ⊢ iprop(((∃ X', ⌜(∀ j, X' (r.emb j) = w j) ∧ ∀ i, i ∉ r.set → X' i = X i⌝ ∗ OWN c v X') -∗ WP c (k ⟨⟩) Q)
      -∗ WP c (.op (.store v r w Finset.univ hx hm) k) Q) := by
  unfold OWN owns
  iintro ⟨%f, %hf, H⟩ Hk
  iapply (wp_store 𝒱₀ (c : Thread nD τ) none Set.univ (m := v) (r := r) (Mk := Finset.univ) (View.set_slice_subset _ _)) $$ H
  iintro H
  iapply Hk
  iexists (v.view.read (Elt F) ((v.access r).write (Elt F) f w Finset.univ))
  isplitr
  · ipureintro
    refine ⟨fun j => congrFun (View.read_write_univ (v := v.access r) f w) j, fun i hi => ?_⟩
    rw [← hf]
    refine View.read_congr_at i (View.write_of_not_mem _ _ _ ?_)
    rw [View.setOn_univ, View.set_slice]
    exact fun h => hi ((Finset.mem_map' _).mp h)
  · iexists _
    isplitr
    · ipureintro; rfl
    · iexact H

omit [FloatOps F] in
/-- A squeezed view's contents are the view's, re-indexed. -/
theorem squeeze_intro {v : Memref sig .tc .vmem s e} {s' : Shape} (h : s.Squeezes s') {X : s.Idx → Elt F e} :
    OWN c v X ⊢ OWN c (v.squeeze s' h) (fun j => X (Shape.reshapeEquiv h.numel_eq j)) := by
  unfold OWN owns
  iintro ⟨%f, %hf, H⟩
  iexists f
  isplitr
  · ipureintro; subst hf; rfl
  · rw [show (v.squeeze s' h).view.set = v.view.set from View.set_reshape _ _]; iexact H
omit [FloatOps F] in
theorem squeeze_elim {v : Memref sig .tc .vmem s e} {s' : Shape} (h : s.Squeezes s') {X : s'.Idx → Elt F e} :
    OWN c (v.squeeze s' h) X ⊢ OWN c v (fun j => X ((Shape.reshapeEquiv h.numel_eq).symm j)) := by
  unfold OWN owns
  iintro ⟨%f, %hf, H⟩
  iexists f
  isplitr
  · ipureintro
    subst hf
    funext j
    show v.view.read (Elt F) f j = v.view.read (Elt F) f (Shape.reshapeEquiv h.numel_eq ((Shape.reshapeEquiv h.numel_eq).symm j))
    rw [Equiv.apply_symm_apply]
  · rw [show (v.squeeze s' h).view.set = v.view.set from View.set_reshape _ _]; iexact H
omit [FloatOps F] in
theorem any_intro {v : Memref sig .tc .vmem s e} {X : s.Idx → Elt F e} : OWN c v X ⊢ anyAt c v := by
  unfold anyAt; iintro H; iexists X; iexact H
omit [FloatOps F] in
theorem any_squeeze {v : Memref sig .tc .vmem s e} {s' : Shape} (h : s.Squeezes s') : anyAt (F := F) c v ⊢ anyAt c (v.squeeze s' h) := by
  unfold anyAt
  iintro ⟨%X, H⟩
  iexists _
  iapply (squeeze_intro c h) $$ H
omit [FloatOps F] in
theorem any_unsqueeze {v : Memref sig .tc .vmem s e} {s' : Shape} (h : s.Squeezes s') : anyAt (F := F) c (v.squeeze s' h) ⊢ anyAt c v := by
  unfold anyAt
  iintro ⟨%X, H⟩
  iexists _
  iapply (squeeze_elim c h) $$ H

/-- Two rectangles making up a third: its ownership splits, -/
theorem split_two {v : Memref sig .tc .vmem s e} {r r0 r1 : Rect s} {hr hr0 hr1} (e0 : r0.shape.Idx → r.shape.Idx) (e1 : r1.shape.Idx → r.shape.Idx)
    (h0 : ∀ j, r0.emb j = r.emb (e0 j)) (h1 : ∀ j, r1.emb j = r.emb (e1 j)) (hd : Disjoint r0.set r1.set) (hu : r.set = r0.set ∪ r1.set) {X : r.shape.Idx → Elt F e} :
    OWN c (v.slice r hr) X ⊢ iprop(OWN c (v.slice r0 hr0) (fun j => X (e0 j)) ∗ OWN c (v.slice r1 hr1) (fun j => X (e1 j))) := by
  unfold OWN owns
  have hset : (v.slice r hr).view.set = (v.slice r0 hr0).view.set ∪ (v.slice r1 hr1).view.set := by
    simp only [Memref.view_slice, View.set_slice]; rw [hu, Finset.map_union]
  have hdis : Disjoint (v.slice r0 hr0).view.set (v.slice r1 hr1).view.set := by
    simp only [Memref.view_slice, View.set_slice]; exact (Finset.disjoint_map _).mpr hd
  iintro ⟨%f, %hf, H⟩
  rw [hset]
  ihave H := (pointsTo_union hdis).1 $$ H
  icases H with ⟨H0, H1⟩
  isplitl [H0]
  · iexists f
    isplitr
    · ipureintro; subst hf; funext j
      show v.view.read (Elt F) f (r0.emb j) = v.view.read (Elt F) f (r.emb (e0 j))
      rw [h0]
    · iexact H0
  · iexists f
    isplitr
    · ipureintro; subst hf; funext j
      show v.view.read (Elt F) f (r1.emb j) = v.view.read (Elt F) f (r.emb (e1 j))
      rw [h1]
    · iexact H1
/-- and comes back from the two. -/
theorem join_two {v : Memref sig .tc .vmem s e} {r r0 r1 : Rect s} {hr hr0 hr1} (hd : Disjoint r0.set r1.set) (hu : r.set = r0.set ∪ r1.set) :
    iprop(anyAt (F := F) c (v.slice r0 hr0) ∗ anyAt c (v.slice r1 hr1)) ⊢ anyAt c (v.slice r hr) := by
  unfold anyAt owns
  have hset : (v.slice r hr).view.set = (v.slice r0 hr0).view.set ∪ (v.slice r1 hr1).view.set := by
    simp only [Memref.view_slice, View.set_slice]; rw [hu, Finset.map_union]
  have hdis : Disjoint (v.slice r0 hr0).view.set (v.slice r1 hr1).view.set := by
    simp only [Memref.view_slice, View.set_slice]; exact (Finset.disjoint_map _).mpr hd
  iintro ⟨⟨%X0, %f0, -, H0⟩, %X1, %f1, -, H1⟩
  iexists ((v.slice r hr).view.read (Elt F) ((v.slice r1 hr1).view.set.piecewise f1 f0)); iexists _
  isplitr
  rotate_left
  · rw [hset]
    iapply (pointsTo_join hdis)
    isplitl [H0]; · iexact H0
    iexact H1
  · ipureintro; rfl

/-- A buffer cut into rectangles: holding it whole is holding each, -/
theorem cut_whole {I : Type} [Fintype I] [DecidableEq I] (b : Ref sig .tc) (R : I → Rect b.ty.shape)
    (hd : ∀ i i', i ≠ i' → Disjoint (R i).set (R i').set) (hu : ∀ x : b.ty.shape.Idx, ∃ i, x ∈ (R i).set) (q : PosShare TreeShare) (f : Buf (Elt F) ((c : Thread nD τ).loc b)) :
    (((c : Thread nD τ).loc b) ↦{q} f : sProp 𝕄) = bigSep Finset.univ fun i => ((c : Thread nD τ).loc b) ↦[(R i).set]{q} f := by
  rw [← pointsTo_biUnion _ _ fun i _ i' _ h => hd i i' h]
  congr 1
  refine (Finset.eq_univ_iff_forall.mpr fun x => ?_).symm
  obtain ⟨i, hi⟩ := hu x
  exact Finset.mem_biUnion.mpr ⟨i, Finset.mem_univ i, hi⟩
end Access

end Cert.Rs
-- ==== Proof.Ops.lean ====
/-
# One operation at a time: departures, arrivals, the barrier
-/
module

public import proofs.«01_k».proof.Proof.Mem

@[expose] public section

noncomputable section

namespace Cert.Rs

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (K : Dev nD × Fin 29 → ℕ)

/-! ## A device's standing in the exchange -/

/-- What everyone knows: the cells' invariants and the order of waits. -/
def ctx : sProp 𝕄 := iprop(records m K ∗ levAts L lv)
instance ctx_persistent : BI.Persistent (ctx m K) := by unfold ctx; infer_instance

def OWES (c : Dev nD) (O : CellTallies nD τ sig ℕ) : sProp 𝕄 := iprop(∃ W, owes (c : Thread nD τ) O W)

/-- Device `c` awaits block `τ'` of kind `k`, stream `s`: its places in the arrival cells, -/
def POS (k : Fin 3) (s : Fin 2) (τ' : ℕ) (c : Dev nD) : sProp 𝕄 := bigSep (Finset.Ico τ' (τ' + md k)) fun u => atPos ER (rcell k u s c) (u / md k) ∅ 0
/-- the credit for the arrivals to come, -/
def CR (k : Fin 3) (s : Fin 2) (τ' : ℕ) (c : Dev nD) : sProp 𝕄 := bigSep (Finset.Ico τ' 8) fun u => cred (tallyAt (rcell k u s c) u N)
/-- the right to make the transfers to come, -/
def TOK (k : Fin 3) (s : Fin 2) (τ' : ℕ) (c : Dev nD) : sProp 𝕄 := bigSep (Finset.Ico τ' 8) fun u => dutyTok ER (rcell k u s (dst k s c)) (u / md k) 0
/-- and the leaves it has not yet handed out. -/
def MINE (k : Fin 3) (s : Fin 2) (a b : ℕ) (c : Dev nD) : sProp 𝕄 := bigSep (Finset.Ico a b) fun u => permit k u s c
/-- Before departure `r` of a stream: no transfer under way. -/
def sndC (k : Fin 3) (s : Fin 2) (r : ℕ) (c : Dev nD) : sProp 𝕄 :=
  iprop(atPos ER (scell k s c) r ∅ 0 ∗ reached ER (scell k s c) r ∗ bigSep (Finset.Ico r 8) fun u => dutyTok ER (scell k s c) u 0)
def sndI (k : Fin 3) (s : Fin 2) (r : ℕ) (c : Dev nD) : sProp 𝕄 := iprop(sndC k s r c ∗ anyAt c (src3 k s))
/-- Departure `r` under way. -/
def sndF (k : Fin 3) (s : Fin 2) (r : ℕ) (c : Dev nD) : sProp 𝕄 :=
  iprop(atPos ER (scell k s c) r ∅ 0 ∗ cred (tallyAt (scell k s c) r N) ∗ bigSep (Finset.Ico (r + 1) 8) fun u => dutyTok ER (scell k s c) u 0)
/-- The leaves that go with a relayed block. -/
def EXTRA (k : Fin 3) (u : ℕ) (s : Fin 2) (c : Dev nD) : sProp 𝕄 := if k = 1 ∧ u + 1 < 8 then permits (u + 1) s c else iprop(emp)

theorem bs_bot {a b : ℕ} (h : a < b) (Φ : ℕ → sProp 𝕄) : bigSep (Finset.Ico a b) Φ = iprop(Φ a ∗ bigSep (Finset.Ico (a + 1) b) Φ) := by
  rw [Ico_bot h]; exact bigSep_insert (bot_notMem a b)
theorem bs_top {a b : ℕ} (h : a ≤ b) (Φ : ℕ → sProp 𝕄) : bigSep (Finset.Ico a (b + 1)) Φ = iprop(Φ b ∗ bigSep (Finset.Ico a b) Φ) := by
  rw [Ico_top h]; exact bigSep_insert (top_notMem a b)
theorem payload_bar (p : Dev nD) (r : ℕ) (d : Fin 2) : (Rd m).payload (bcell p) r d = permits 0 d p := rfl

section
variable {α : Type} (c : Dev nD)

/-- A departure. -/
theorem wp_send {Q : α → sProp 𝕄} (k : Fin 3) (u : ℕ) (s : Fin 2) (hu : u < 8) (O : CellTallies nD τ sig ℕ)
    {n : Dev nD} (hn : n = dst k s c) {sv dv : Memref sig .tc .vmem S1024x512 .bf16} (hsv : sv = src k s) (hdv : dv = rslot k u s)
    {q1 q2 : DmaSem sig} (hq1 : q1 = sS k s) (hq2 : q2 = rS k u s)
    {O₀ : CellTallies nD τ sig ℕ} (hO : O₀ = O + due c k u s)
    {hsc} {hsrc hdst} {hsem} {kk : PUnit → Prog (TpuEff nD τ sig (Elt F) Λ₀ .tc) α} :
    iprop(ctx m K ∗ OWN c (src3 k s) (val m k u s c) ∗ permit k u s (dst k s c) ∗ EXTRA k u s (dst k s c) ∗ sndC k s u c ∗ TOK k s u c ∗ OWES c O₀)
      ⊢ iprop(((sndF k s u c ∗ TOK k s (u + 1) c ∗ OWES c O) -∗ WP c (kk ⟨⟩) Q)
        -∗ WP c (.op (.enqueueDma sv (.remote (Dev.tc n) dv (.dma q1) hsc) (.dma q2) hsrc hdst hsem) kk) Q) := by
  subst hn hsv hdv hq1 hq2 hO
  unfold ctx permit sndC sndF OWES TOK
  rw [bs_bot hu, bs_bot hu]
  iintro ⟨⟨#HR, #Hlv⟩, Hs, ⟨Hd, #Hr2⟩, HE, ⟨Hat, #Hr1, Ht1, Hts1⟩, ⟨Ht2, Hts2⟩, ⟨%W, HO⟩⟩ Hk
  ihave Hs := (squeeze_intro c squeezes_S1x1024x512_S1024x512) $$ Hs
  unfold OWN owns anyAt owns
  icases Hs with ⟨%fs, %hfs, Hs⟩
  icases Hd with ⟨%Xd, %fd, -, Hd⟩
  iapply (Rounds.wp_send_pointsTo_with 𝒱₀ ER (Rd m) (c : Thread nD τ) none (c' := (dst k s c : Thread nD τ)) (src := src k s) (dst := rslot k u s)
    (sS := .dma (sS k s)) (sem := .dma (rS k u s)) (κ₁ := K (c, jS k s)) (κ₂ := K (dst k s c, jR k u s)) (F := EXTRA k u s (dst k s c))
    (r₁ := u) (r₂ := u / md k) (d₁ := 0) (d₂ := 0) (fs := fs) (fd := fd)
    (by rw [duties_send m k u s c hu]; exact Finset.mem_singleton_self _) (by rw [duties_recv m k u s (dst k s c) hu]; exact Finset.mem_singleton_self _)
    u u N (credit_rslot k u s) rfl rfl O rfl (W := W)
    (by
      rw [payload_send]; unfold sendPay anyAt owns
      iintro H; iexists _; iexists fs
      isplitr; · ipureintro; rfl
      iexact H)
    (by
      rw [payload_recv]; unfold recvPay owns EXTRA
      iintro ⟨H, HE⟩
      isplitl [H]
      · iexists _
        isplitr
        rotate_left
        · iexact H
        · ipureintro
          rw [View.read_write_univ, fr_dst]
          exact hfs
      · iexact HE)) $$ [Hs Hd HE HO Ht1 Ht2]
  · isplitr; · iapply (inv_at m K c (jS k s) (kcell_S k s c)); iexact HR
    isplitr; · iapply (inv_at m K (dst k s c) (jR k u s) (kcell_R k u s (dst k s c))); iexact HR
    isplitl [Hs]; · iexact Hs
    isplitl [Hd HE]
    · isplitl [Hd]; · iexact Hd
      iexact HE
    isplitl [HO]; · iexact HO
    isplitl [Ht1]; · iexact Ht1
    isplitr; · iexact Hr1
    isplitl [Ht2]; · iexact Ht2
    iexact Hr2
  iintro ⟨Hc, HO⟩
  iapply Hk
  isplitl [Hat Hc Hts1]
  · isplitl [Hat]; · iexact Hat
    isplitl [Hc]; · iexact Hc
    iexact Hts1
  isplitl [Hts2]; · iexact Hts2
  iexists W; iexact HO

/-- Waiting until a departure is complete. -/
theorem wp_sent {Q : α → sProp 𝕄} (k : Fin 3) (u : ℕ) (s : Fin 2) (hu : u < 8) (O : CellTallies nD τ sig ℕ) (hO : Above 0 O)
    {sv dv : Memref sig .tc .vmem S1024x512 .bf16} (hsv : sv = src k s) {q1 : DmaSem sig} (hq1 : q1 = sS k s)
    {hsrc hdst} {kk : PUnit → Prog (TpuEff nD τ sig (Elt F) Λ₀ .tc) α} :
    iprop(ctx m K ∗ sndF k s u c ∗ OWES c O)
      ⊢ iprop(((sndI k s (u + 1) c ∗ OWES c O) -∗ WP c (kk ⟨⟩) Q) -∗ WP c (.op (.waitDma2 q1 dv sv hsrc hdst) kk) Q) := by
  subst hsv hq1
  unfold ctx sndF sndI sndC OWES
  iintro ⟨⟨#HR, #Hlv⟩, ⟨Hat, Hc, Hts⟩, ⟨%W, HO⟩⟩ Hk
  iapply (Rounds.wp_wait_rest_token 𝒱₀ ER (Rd m) (c : Thread nD τ) none (κ := K (c, jS k s)) (sm := .dma (sS k s)) (k' := N)
      (fun K' => (wpE_waitDma2_eq 𝒱₀ (c : Thread nD τ) none Set.univ K').trans (by rw [credit_src])) (Set.mem_univ _) u (O := O) (W := W) (R := u) (m := 0) (T := ∅)
      (by rw [Nat.zero_add, expect_send m k u s c hu])) $$ [Hat Hc HO]
  · isplitr; · iapply (inv_at m K c (jS k s) (kcell_S k s c)); iexact HR
    isplitl [Hc]; · iexact Hc
    isplitl [HO]; · iexact HO
    isplitr; · iapply (mayWait_of_above (c := c) (sm := .dma (sS k s)) hu (by rw [lv_send]; exact hO)); iexact Hlv
    iexact Hat
  rw [rest_send m k u s c hu]
  unfold sendPay
  iintro ⟨HO, Hat, #Hr, Hp⟩
  iapply Hk
  isplitr [HO]
  · isplitr [Hp]
    · isplitl [Hat]; · iexact Hat
      isplitr; · iexact Hr
      iexact Hts
    · unfold src; iapply (any_unsqueeze c squeezes_S1x1024x512_S1024x512) $$ Hp
  iexists _; iexact HO

theorem slot_open (k : Fin 3) (u : ℕ) (s : Fin 2) :
    owns (c : Thread nD τ) (rslot k u s) fullShare (sq3 (val m k u s (fr k s c))) ⊢ OWN c (rslot4 k u s) (got m k u s c) :=
  squeeze_elim c (v := rslot4 k u s) squeezes_S1x1x1024x512_S1024x512

/-- Waiting for an arrival. -/
theorem wp_recv {Q : α → sProp 𝕄} (k : Fin 3) (u : ℕ) (s : Fin 2) (hu : u < 8) (O : CellTallies nD τ sig ℕ)
    (hO : Above (if k = 2 then 2 * u + 3 else 2 * u + 2) O)
    {sv dv : Memref sig .tc .vmem S1024x512 .bf16} (hdv : dv = rslot k u s) {q2 : DmaSem sig} (hq2 : q2 = rS k u s)
    {hsrc hdst} {kk : PUnit → Prog (TpuEff nD τ sig (Elt F) Λ₀ .tc) α} :
    iprop(ctx m K ∗ POS k s u c ∗ CR k s u c ∗ OWES c O)
      ⊢ iprop(((POS k s (u + 1) c ∗ CR k s (u + 1) c ∗ OWES c O ∗ OWN c (rslot4 k u s) (got m k u s c)
          ∗ reached ER (rcell k (u + md k) s c) ((u + md k) / md k) ∗ EXTRA k u s c) -∗ WP c (kk ⟨⟩) Q)
        -∗ WP c (.op (.waitDma2 q2 sv dv hsrc hdst) kk) Q) := by
  subst hdv hq2
  have hmd := md_pos k
  have hdiv : (u + md k) / md k = u / md k + 1 := Nat.add_div_right u hmd
  unfold ctx POS CR OWES
  rw [bs_bot (show u < u + md k by omega), bs_bot hu, show u + 1 + md k = (u + md k) + 1 by omega, bs_top (show u + 1 ≤ u + md k by omega),
    hdiv, show rcell k (u + md k) s c = rcell k u s c from by unfold rcell; rw [rS_add_md]]
  iintro ⟨⟨#HR, #Hlv⟩, ⟨Hat, Hats⟩, ⟨Hc, Hcs⟩, ⟨%W, HO⟩⟩ Hk
  iapply (Rounds.wp_wait_rest_token 𝒱₀ ER (Rd m) (c : Thread nD τ) none (κ := K (c, jR k u s)) (sm := .dma (rS k u s)) (k' := N)
      (fun K' => (wpE_waitDma2_eq 𝒱₀ (c : Thread nD τ) none Set.univ K').trans (by rw [credit_rslot])) (Set.mem_univ _) u (O := O) (W := W) (R := u / md k) (m := 0) (T := ∅)
      (by rw [Nat.zero_add, expect_recv m k u s c hu])) $$ [Hat Hc HO]
  · isplitr; · iapply (inv_at m K c (jR k u s) (kcell_R k u s c)); iexact HR
    isplitl [Hc]; · iexact Hc
    isplitl [HO]; · iexact HO
    isplitr; · iapply (mayWait_of_above (c := c) (sm := .dma (rS k u s)) hu (by rw [lv_recv]; exact hO)); iexact Hlv
    iexact Hat
  rw [rest_recv m k u s c hu]
  unfold recvPay
  iintro ⟨HO, Hat, #Hr, Hp, HE⟩
  ihave Hp := (slot_open m c k u s) $$ Hp
  iapply Hk
  isplitl [Hat Hats]
  · isplitl [Hat]; · iexact Hat
    iexact Hats
  isplitl [Hcs]; · iexact Hcs
  isplitl [HO]; · iexists _; iexact HO
  isplitl [Hp]; · iexact Hp
  isplitr; · iexact Hr
  unfold EXTRA; iexact HE

/-- A slot read is a slot that may be written again. -/
theorem permit_of (k : Fin 3) (u : ℕ) (s : Fin 2) {X} :
    iprop(OWN c (rslot4 k u s) X ∗ reached ER (rcell k (u + md k) s c) ((u + md k) / md k)) ⊢ permit (F := F) k (u + md k) s c := by
  unfold permit
  iintro ⟨H, Hr⟩
  isplitl [H]
  · rw [rslot_add_md]
    iapply (any_squeeze c squeezes_S1x1x1024x512_S1024x512)
    iapply (any_intro c) $$ H
  · iexact Hr
theorem MINE_push (k : Fin 3) (s : Fin 2) {a b : ℕ} (h : a ≤ b) : iprop(MINE k s a b c ∗ permit k b s c) ⊢ MINE (F := F) k s a (b + 1) c := by
  unfold MINE
  rw [bs_top h]
  exact sep_comm.1
theorem MINE_pop (k : Fin 3) (s : Fin 2) {a b : ℕ} (h : a < b) : MINE (F := F) k s a b c ⊢ iprop(permit k a s c ∗ MINE k s (a + 1) b c) := by
  unfold MINE
  rw [bs_bot h]

/-! ## The exchange of the barrier -/

theorem wp_barrier {Q : α → sProp 𝕄} {n0 n1 : Dev nD} (hn0 : n0 = nb 0 c) (hn1 : n1 = nb 1 c) (O : CellTallies nD τ sig ℕ) (hO : Above 1 O)
    {kk : PUnit → Prog (TpuEff nD τ sig (Elt F) Λ₀ .tc) α} :
    iprop(ctx m K ∗ OWES c (O + tallyAt (bcell (nb 1 c)) 0 1 + tallyAt (bcell (nb 0 c)) 0 1)
        ∗ (atPos ER (bcell c) 0 ∅ 0 ∗ cred (tallyAt (bcell c) 0 2) ∗ dutyTok ER (bcell (nb 0 c)) 0 1 ∗ dutyTok ER (bcell (nb 1 c)) 0 0)
        ∗ permits 0 1 (nb 0 c) ∗ permits 0 0 (nb 1 c))
      ⊢ iprop(((OWES c O ∗ atPos ER (bcell c) 1 ∅ 0 ∗ permits 0 0 c ∗ permits 0 1 c) -∗ WP c (kk ⟨⟩) Q)
        -∗ WP c (.op (.semSignal (Dev.tc n0) barS 1) fun _ => .op (.semSignal (Dev.tc n1) barS 1) fun _ => .op (.semWait barS 2) kk) Q) := by
  subst hn0 hn1
  unfold ctx OWES
  iintro ⟨⟨#HR, #Hlv⟩, ⟨%W, HO⟩, ⟨Hat, Hc, Ht0, Ht1⟩, Hp0, Hp1⟩ Hk
  iapply (Rounds.wp_signal 𝒱₀ ER (Rd m) (c : Thread nD τ) none (dst := (nb 0 c : Thread nD τ)) (κ := K (nb 0 c, jB)) (r := 0)
      (d := 1) (by rw [duties_bar]; exact Finset.mem_univ _) rfl 0 (O + tallyAt (bcell (nb 1 c)) 0 1) rfl)
    $$ [HO Ht0 Hp0]
  · isplitr; · iapply (inv_at m K (nb 0 c) jB rfl); iexact HR
    isplitl [HO]; · iexact HO
    isplitl [Ht0]; · iexact Ht0
    isplitl [Hp0]; · rw [payload_bar]; iexact Hp0
    iapply (reached_at m K (nb 0 c) jB rfl); iexact HR
  iintro HO
  iapply (Rounds.wp_signal 𝒱₀ ER (Rd m) (c : Thread nD τ) none (dst := (nb 1 c : Thread nD τ)) (κ := K (nb 1 c, jB)) (r := 0)
      (d := 0) (by rw [duties_bar]; exact Finset.mem_univ _) rfl 0 O rfl)
    $$ [HO Ht1 Hp1]
  · isplitr; · iapply (inv_at m K (nb 1 c) jB rfl); iexact HR
    isplitl [HO]; · iexact HO
    isplitl [Ht1]; · iexact Ht1
    isplitl [Hp1]; · rw [payload_bar]; iexact Hp1
    iapply (reached_at m K (nb 1 c) jB rfl); iexact HR
  iintro HO
  iapply (Rounds.wp_wait_rest_token 𝒱₀ ER (Rd m) (c : Thread nD τ) none (κ := K (c, jB)) (sm := .reg barS) (k' := 2)
      (wpE_semWait_eq 𝒱₀ (c : Thread nD τ) none Set.univ) (Set.mem_univ _) 0 (O := O) (W := W) (R := 0) (m := 0) (T := ∅)
      (by rw [Nat.zero_add, expect_bar])) $$ [Hc HO Hat]
  · isplitr; · iapply (inv_at m K c jB rfl); iexact HR
    isplitl [Hc]; · iexact Hc
    isplitl [HO]; · iexact HO
    isplitr; · iapply (mayWait_of_above (c := c) (sm := .reg barS) (ι := 0) (by decide) hO); iexact Hlv
    iexact Hat
  rw [rest_bar m c]
  iintro ⟨HO, Hat, -, Hp0, Hp1⟩
  iapply Hk
  isplitl [HO]; · iexists _; iexact HO
  isplitl [Hat]; · iexact Hat
  isplitl [Hp0]; · iexact Hp0
  iexact Hp1

/-- A conditional in the middle of a program: what it needs apart, both ways lead to the same. -/
theorem wp_cond {Q : α → sProp 𝕄} {S P R FR : sProp 𝕄} {p : Prop} [Decidable p] {A : p → Prog (TpuEff nD τ sig (Elt F) Λ₀ .tc) PUnit} {B : ¬p → Prog (TpuEff nD τ sig (Elt F) Λ₀ .tc) PUnit}
    {k : PUnit → Prog (TpuEff nD τ sig (Elt F) Λ₀ .tc) α} (hS : S ⊢ iprop(P ∗ FR)) (hA : ∀ h, P ⊢ WP c (A h) fun _ => R) (hB : ∀ h, P ⊢ WP c (B h) fun _ => R)
    (hk : iprop(R ∗ FR) ⊢ WP c (k ⟨⟩) Q) : S ⊢ WP c (dite p A B >>= k) Q := by
  have h : P ⊢ WP c (dite p A B) fun _ => R := by
    by_cases hp : p
    · rw [dif_pos hp]; exact hA hp
    · rw [dif_neg hp]; exact hB hp
  unfold WP
  rw [wp_bind]
  exact (hS.trans (sep_mono_left h)).trans ((wp_frame_r _ _ _).trans (wp_mono _ _ _ fun _ => hk))

/-- What a piece of a program ends in, the rest starts from. -/
theorem wp_cut {β : Type} {Q : α → sProp 𝕄} {P : sProp 𝕄} {R : β → sProp 𝕄} {p : Prog (TpuEff nD τ sig (Elt F) Λ₀ .tc) β}
    {k : β → Prog (TpuEff nD τ sig (Elt F) Λ₀ .tc) α} (h : P ⊢ WP c p R) :
    P ⊢ iprop((∀ x, R x -∗ WP c (k x) Q) -∗ WP c (p >>= k) Q) := by
  unfold WP
  rw [wp_bind]
  exact h.trans (wp_wand _ _ _)
theorem wp_done {Q : α → sProp 𝕄} (x : α) : Q x ⊢ WP c (.ret x) Q := by
  unfold WP; rw [wp_ret]; exact fupd_intro
end

end Cert.Rs
-- ==== Proof.Geo.lean ====
/-
# The body's offsets, conditions and views in closed form
-/
module

public import proofs.«01_k».proof.Proof.Mem

@[expose] public section

noncomputable section

namespace Cert.Rs

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The body's views and semaphores, by their names -/

theorem dirV_off {off : Fin 4 → ℕ} {u : ℕ} {s : Fin 2} (h : off = ![u % 4, s.val, 0, 0]) (inb) :
    (dirB.slice (Rect.unit (s := S4x2x1024x512) off S1x1x1024x512.size inb) (fun _ => rfl)).squeeze S1024x512 squeezes_S1x1x1024x512_S1024x512 = rslot 0 u s := by
  subst h; rfl
theorem relV_off {off : Fin 4 → ℕ} {u : ℕ} {s : Fin 2} (h : off = ![u % 3, s.val, 0, 0]) (inb) :
    (relB.slice (Rect.unit (s := S3x2x1024x512) off S1x1x1024x512.size inb) (fun _ => rfl)).squeeze S1024x512 squeezes_S1x1x1024x512_S1024x512 = rslot 1 u s := by
  subst h; rfl
theorem comV_off {off : Fin 4 → ℕ} {u : ℕ} {s : Fin 2} (h : off = ![u % 4, s.val, 0, 0]) (inb) :
    (comB.slice (Rect.unit (s := S4x2x1024x512) off S1x1x1024x512.size inb) (fun _ => rfl)).squeeze S1024x512 squeezes_S1x1x1024x512_S1024x512 = rslot 2 u s := by
  subst h; rfl

theorem inb2 {n : ℕ} (p : Fin n) (s : Fin 2) : ∀ a, (![p.val, s.val] : Fin 2 → ℕ) a + S1x1.size a ≤ (⟨2, ![n, 2]⟩ : Shape).size a := by
  intro a; fin_cases a
  · show p.val + 1 ≤ n; omega
  · show s.val + 1 ≤ 2; omega
theorem semD_fin : ∀ (p : Fin 4) (s : Fin 2), ((cc0_scratch8.slice (Rect.unit (s := S4x2) ![p.val, s.val] S1x1.size (inb2 p s))).squeeze S_ squeezes_S1x1_S_).sem = rS 0 p.val s := by
  decide +kernel
theorem semR_fin : ∀ (p : Fin 3) (s : Fin 2), ((cc0_scratch9.slice (Rect.unit (s := S3x2) ![p.val, s.val] S1x1.size (inb2 p s))).squeeze S_ squeezes_S1x1_S_).sem = rS 1 p.val s := by
  decide +kernel
theorem semC_fin : ∀ (p : Fin 4) (s : Fin 2), ((cc0_scratch10.slice (Rect.unit (s := S4x2) ![p.val, s.val] S1x1.size (inb2 p s))).squeeze S_ squeezes_S1x1_S_).sem = rS 2 p.val s := by
  decide +kernel
theorem semS_fin : ∀ (k : Fin 3) (s : Fin 2), ((cc0_scratch7.slice (Rect.unit (s := S3x2) ![k.val, s.val] S1x1.size (inb2 k s))).squeeze S_ squeezes_S1x1_S_).sem = sS k s := by
  decide +kernel
theorem semD_off {off : Fin 2 → ℕ} {u : ℕ} {s : Fin 2} (h : off = ![u % 4, s.val]) (inb) :
    ((cc0_scratch8.slice (Rect.unit (s := S4x2) off S1x1.size inb)).squeeze S_ squeezes_S1x1_S_).sem = rS 0 u s := by
  subst h; exact (semD_fin ⟨u % 4, Nat.mod_lt _ (by decide)⟩ s).trans (rS_mod 0 u s).symm
theorem semR_off {off : Fin 2 → ℕ} {u : ℕ} {s : Fin 2} (h : off = ![u % 3, s.val]) (inb) :
    ((cc0_scratch9.slice (Rect.unit (s := S3x2) off S1x1.size inb)).squeeze S_ squeezes_S1x1_S_).sem = rS 1 u s := by
  subst h; exact (semR_fin ⟨u % 3, Nat.mod_lt _ (by decide)⟩ s).trans (rS_mod 1 u s).symm
theorem semC_off {off : Fin 2 → ℕ} {u : ℕ} {s : Fin 2} (h : off = ![u % 4, s.val]) (inb) :
    ((cc0_scratch10.slice (Rect.unit (s := S4x2) off S1x1.size inb)).squeeze S_ squeezes_S1x1_S_).sem = rS 2 u s := by
  subst h; exact (semC_fin ⟨u % 4, Nat.mod_lt _ (by decide)⟩ s).trans (rS_mod 2 u s).symm
theorem semS_off (k : Fin 3) (s : Fin 2) {off : Fin 2 → ℕ} (h : off = ![k.val, s.val]) (inb) :
    ((cc0_scratch7.slice (Rect.unit (s := S3x2) off S1x1.size inb)).squeeze S_ squeezes_S1x1_S_).sem = sS k s := by
  subst h; exact semS_fin k s

theorem src0_off (s : Fin 2) {off : Fin 3 → ℕ} (h : off = ![s.val, 0, 512 * s.val]) (inb) :
    (nbrB.slice (Rect.unit (s := S2x1024x1024) off S1x1024x512.size inb) (fun _ => rfl)).squeeze S1024x512 squeezes_S1x1024x512_S1024x512 = src 0 s := by
  subst h; rfl
theorem src1_off (s : Fin 2) {off : Fin 3 → ℕ} (h : off = ![s.val, 0, 0]) (inb) :
    (rsndB.slice (Rect.unit (s := S2x1024x512) off S1x1024x512.size inb) (fun _ => rfl)).squeeze S1024x512 squeezes_S1x1024x512_S1024x512 = src 1 s := by
  subst h; rfl
theorem src2_off (s : Fin 2) {off : Fin 3 → ℕ} (h : off = ![s.val, 0, 0]) (inb) :
    (csndB.slice (Rect.unit (s := S2x1024x512) off S1x1024x512.size inb) (fun _ => rfl)).squeeze S1024x512 squeezes_S1x1024x512_S1024x512 = src 2 s := by
  subst h; rfl

/-! ## The conditions, and the offsets that lag behind the step -/

abbrev G := grid0.coords

theorem coord_val : ∀ t : Fin cfg0.N, (G t 0).val = t.val := by decide +kernel
theorem cond1_iff : ∀ t : Fin cfg0.N, k0_cond1 (G t) = 1#1 ↔ t.val = 0 := by decide +kernel
theorem cond4_iff : ∀ t : Fin cfg0.N, k0_cond4 (G t) = 1#1 ↔ 1 ≤ t.val ∧ t.val ≤ 8 := by decide +kernel
theorem cond5_iff : ∀ t : Fin cfg0.N, k0_cond5 (G t) = 1#1 ↔ t.val ≤ 7 := by decide +kernel
theorem cond6_iff : ∀ t : Fin cfg0.N, k0_cond6 (G t) = 1#1 ↔ 2 ≤ t.val := by decide +kernel
theorem cond7_iff : ∀ t : Fin cfg0.N, k0_cond7 (G t) = 1#1 ↔ t.val = 2 := by decide +kernel
theorem cond8_iff : ∀ t : Fin cfg0.N, k0_cond8 (G t) = 1#1 ↔ 3 ≤ t.val := by decide +kernel
theorem cond9_iff : ∀ t : Fin cfg0.N, k0_cond9 (G t) = 1#1 ↔ t.val ≤ 7 := by decide +kernel
abbrev sent1 (i : grid0.Coords) : BitVec 1 := Scalar.cmpi .ne (Scalar.extui (Scalar.andi (Scalar.cmpi .sge (BitVec.ofNat 32 (i 0).val) 1#32) (Scalar.cmpi .sle (BitVec.ofNat 32 (i 0).val) 8#32)) : BitVec 32) 0#32
abbrev sent2 (i : grid0.Coords) : BitVec 1 := Scalar.cmpi .ne (Scalar.extui (Scalar.andi (Scalar.cmpi .sge (BitVec.ofNat 32 (i 0).val) 2#32) (Scalar.cmpi .sle (BitVec.ofNat 32 (i 0).val) 9#32)) : BitVec 32) 0#32
theorem sent1_iff : ∀ t : Fin cfg0.N, sent1 (G t) = 1#1 ↔ 1 ≤ t.val ∧ t.val ≤ 8 := by decide +kernel
theorem sent2_iff : ∀ t : Fin cfg0.N, sent2 (G t) = 1#1 ↔ 2 ≤ t.val ∧ t.val ≤ 9 := by decide +kernel

theorem off1_at : ∀ t : Fin cfg0.N, 1 ≤ t.val → k0_off1 (G t) = ![(t.val - 1) % 3, 0] := by decide +kernel
theorem off2_at : ∀ t : Fin cfg0.N, 1 ≤ t.val → k0_off2 (G t) = ![(t.val - 1) % 3, 0, 0, 0] := by decide +kernel
theorem off3_at : ∀ t : Fin cfg0.N, 1 ≤ t.val → k0_off3 (G t) = ![(t.val - 1) % 3, 0, 0, 0] := by decide +kernel
theorem off4_at : ∀ t : Fin cfg0.N, 1 ≤ t.val → k0_off4 (G t) = ![(t.val - 1) % 4, 0] := by decide +kernel
theorem off5_at : ∀ t : Fin cfg0.N, 1 ≤ t.val → k0_off5 (G t) = ![(t.val - 1) % 4, 0, 0, 0] := by decide +kernel
theorem off6_at : ∀ t : Fin cfg0.N, 1 ≤ t.val → k0_off6 (G t) = ![(t.val - 1) % 3, 1] := by decide +kernel
theorem off7_at : ∀ t : Fin cfg0.N, 1 ≤ t.val → k0_off7 (G t) = ![(t.val - 1) % 3, 1, 0, 0] := by decide +kernel
theorem off8_at : ∀ t : Fin cfg0.N, 1 ≤ t.val → k0_off8 (G t) = ![(t.val - 1) % 3, 1, 0, 0] := by decide +kernel
theorem off9_at : ∀ t : Fin cfg0.N, 1 ≤ t.val → k0_off9 (G t) = ![(t.val - 1) % 4, 1] := by decide +kernel
theorem off10_at : ∀ t : Fin cfg0.N, 1 ≤ t.val → k0_off10 (G t) = ![(t.val - 1) % 4, 1, 0, 0] := by decide +kernel
theorem off13_at : ∀ t : Fin cfg0.N, k0_off13 (G t) = ![t.val % 4, 0] := by decide +kernel
theorem off14_at : ∀ t : Fin cfg0.N, k0_off14 (G t) = ![t.val % 4, 0, 0, 0] := by decide +kernel
theorem off15_at : ∀ t : Fin cfg0.N, k0_off15 (G t) = ![t.val % 3, 0] := by decide +kernel
theorem off16_at : ∀ t : Fin cfg0.N, k0_off16 (G t) = ![t.val % 3, 0, 0, 0] := by decide +kernel
theorem off17_at : ∀ t : Fin cfg0.N, k0_off17 (G t) = ![t.val % 4, 1] := by decide +kernel
theorem off18_at : ∀ t : Fin cfg0.N, k0_off18 (G t) = ![t.val % 4, 1, 0, 0] := by decide +kernel
theorem off19_at : ∀ t : Fin cfg0.N, k0_off19 (G t) = ![t.val % 3, 1] := by decide +kernel
theorem off20_at : ∀ t : Fin cfg0.N, k0_off20 (G t) = ![t.val % 3, 1, 0, 0] := by decide +kernel
theorem off21_at : ∀ t : Fin cfg0.N, 2 ≤ t.val → k0_off21 (G t) = ![(t.val - 2) % 4, 0] := by decide +kernel
theorem off22_at : ∀ t : Fin cfg0.N, 2 ≤ t.val → k0_off22 (G t) = ![(t.val - 2) % 4, 0, 0, 0] := by decide +kernel
theorem off23_at : ∀ t : Fin cfg0.N, 2 ≤ t.val → k0_off23 (G t) = ![(t.val - 2) % 2, 0, 0] := by decide +kernel
theorem off24_at : ∀ t : Fin cfg0.N, 2 ≤ t.val → k0_off24 (G t) = ![(t.val - 2) % 4, 0, 0, 0] := by decide +kernel
theorem off25_at : ∀ t : Fin cfg0.N, 2 ≤ t.val → k0_off25 (G t) = ![(t.val - 2) % 4, 1] := by decide +kernel
theorem off26_at : ∀ t : Fin cfg0.N, 2 ≤ t.val → k0_off26 (G t) = ![(t.val - 2) % 4, 1, 0, 0] := by decide +kernel
theorem off27_at : ∀ t : Fin cfg0.N, 2 ≤ t.val → k0_off27 (G t) = ![(t.val - 2) % 2, 0, 512] := by decide +kernel
theorem off28_at : ∀ t : Fin cfg0.N, 2 ≤ t.val → k0_off28 (G t) = ![(t.val - 2) % 4, 1, 0, 0] := by decide +kernel
theorem off30_at : ∀ t : Fin cfg0.N, k0_off30 (G t) = ![t.val % 2, 0, 0] := by decide +kernel

theorem dev1_nb : ∀ (c : Dev nD) (h), (⟨k0_dev1 c, h⟩ : Dev nD) = nb 0 c := by decide +kernel
theorem dev2_nb : ∀ (c : Dev nD) (h), (⟨k0_dev2 c, h⟩ : Dev nD) = nb 1 c := by decide +kernel
theorem dev3_dst : ∀ (c : Dev nD) (h), (⟨k0_dev3 c, h⟩ : Dev nD) = dst 2 0 c := by decide +kernel
theorem dev4_dst : ∀ (c : Dev nD) (h), (⟨k0_dev4 c, h⟩ : Dev nD) = dst 2 1 c := by decide +kernel
theorem dev5_dst : ∀ (c : Dev nD) (h), (⟨k0_dev5 c, h⟩ : Dev nD) = dst 0 0 c := by decide +kernel
theorem dev6_dst : ∀ (c : Dev nD) (h), (⟨k0_dev6 c, h⟩ : Dev nD) = dst 1 0 c := by decide +kernel
theorem dev7_dst : ∀ (c : Dev nD) (h), (⟨k0_dev7 c, h⟩ : Dev nD) = dst 0 1 c := by decide +kernel
theorem dev8_dst : ∀ (c : Dev nD) (h), (⟨k0_dev8 c, h⟩ : Dev nD) = dst 1 1 c := by decide +kernel
theorem off11_nb : ∀ c : Dev nD, k0_off11 c 1#32 = ![1024 * (nb 0 c).val, 0] := by decide +kernel
theorem off11_opp : ∀ c : Dev nD, k0_off11 c 2#32 = ![1024 * (opp c).val, 0] := by decide +kernel
theorem off12_nb : ∀ c : Dev nD, k0_off12 c = ![1024 * (nb 1 c).val, 0] := by decide +kernel
theorem off29_own : ∀ c : Dev nD, k0_off29 c = ![1024 * c.val, 0] := by decide +kernel

/-! ## Contents through rectangles -/

variable (m : (ℓ : Loc nD τ sig) → Buf (Elt F) ℓ)

theorem xrow_at (c d : Dev nD) {off : Fin 2 → ℕ} (h : off = ![1024 * d.val, 0]) (inb) :
    (fun j => xblk m c ((Rect.unit (s := S4096x1024) off S1024x1024.size inb).emb j)) = xrow m c d := by subst h; rfl
theorem unit_zero {s : Shape} {off : Fin s.rank → ℕ} (h : ∀ a, off a = 0) (inb) (j : s.Idx) : (Rect.unit (s := s) off s.size inb).emb j = j := by
  funext a
  refine Fin.ext ?_
  show off a + 1 * (j a).val = (j a).val
  rw [h a]; omega
theorem all_at {α : Type} {s : Shape} {off : Fin s.rank → ℕ} (h : ∀ a, off a = 0) (inb) (X : s.Idx → α) :
    (fun j => X ((Rect.unit (s := s) off s.size inb).emb j)) = X := funext fun j => congrArg X (unit_zero h inb j)
theorem half_at {α : Type} (h : Fin 2) (X : S1x1024x1024.Idx → α) {j : Fin 2} (inb) (x : S1x1024x512.Idx) :
    (Rect.unit (s := S2x1024x1024) ![j.val, 0, 512 * h.val] S1x1024x512.size (inb3h j h)).emb x
      = (Rect.unit (s := S2x1024x1024) ![j.val, 0, 0] S1x1024x1024.size (inb3p j)).emb ((Rect.unit (s := S1x1024x1024) ![0, 0, 512 * h.val] S1x1024x512.size inb).emb x) := by
  funext a
  refine Fin.ext ?_
  fin_cases a
  · show j.val + 1 * (x 0).val = j.val + 1 * (0 + 1 * (x 0).val); omega
  · show 0 + 1 * (x 1).val = 0 + 1 * (0 + 1 * (x 1).val); omega
  · show 512 * h.val + 1 * (x 2).val = 0 + 1 * (512 * h.val + 1 * (x 2).val); omega

/-! ## A plane and its halves -/

theorem halves_disjoint (j : Fin 2) : Disjoint (Rect.unit (s := S2x1024x1024) ![j.val, 0, 512 * (0 : Fin 2).val] S1x1024x512.size (inb3h j 0)).set
    (Rect.unit (s := S2x1024x1024) ![j.val, 0, 512 * (1 : Fin 2).val] S1x1024x512.size (inb3h j 1)).set := by
  rw [Finset.disjoint_left]
  intro i h0 h1
  have h0 := (Rect.mem_set_unit.mp h0 2).2
  have h1 := (Rect.mem_set_unit.mp h1 2).1
  change (i 2).val < 0 + 512 at h0
  change 512 ≤ (i 2).val at h1
  omega
theorem halves_union (j : Fin 2) : (Rect.unit (s := S2x1024x1024) ![j.val, 0, 0] S1x1024x1024.size (inb3p j)).set
    = (Rect.unit (s := S2x1024x1024) ![j.val, 0, 512 * (0 : Fin 2).val] S1x1024x512.size (inb3h j 0)).set
      ∪ (Rect.unit (s := S2x1024x1024) ![j.val, 0, 512 * (1 : Fin 2).val] S1x1024x512.size (inb3h j 1)).set := by
  ext i
  rw [Finset.mem_union, Rect.mem_set_unit, Rect.mem_set_unit, Rect.mem_set_unit]
  have h2 : (i 2).val < 1024 := (i 2).isLt
  constructor
  · intro h
    by_cases hi : (i 2).val < 512
    · left
      intro a
      have ha := h a
      fin_cases a
      · exact ha
      · exact ha
      · exact ⟨Nat.zero_le _, (show (i 2).val < 0 + 512 by omega)⟩
    · right
      intro a
      have ha := h a
      fin_cases a
      · exact ha
      · exact ha
      · exact ⟨(show 512 ≤ (i 2).val by omega), (show (i 2).val < 512 + 512 by omega)⟩
  · rintro (h | h) a
    all_goals
      have ha := h a
      fin_cases a
      · exact ha
      · exact ha
      · exact ⟨Nat.zero_le _, (show (i 2).val < 0 + 1024 by omega)⟩

theorem plane_split (c : Dev nD) (j : Fin 2) {X : S1x1024x1024.Idx → Elt F .bf16} :
    OWN c (nbrP j) X ⊢ iprop(OWN c (nbrH j 0) (half 0 X) ∗ OWN c (nbrH j 1) (half 1 X)) :=
  split_two c _ _ (fun x => half_at 0 X (inbh 0) x) (fun x => half_at 1 X (inbh 1) x) (halves_disjoint j) (halves_union j)
theorem plane_join (c : Dev nD) (j : Fin 2) : iprop(anyAt (F := F) c (nbrH j 0) ∗ anyAt c (nbrH j 1)) ⊢ anyAt c (nbrP j) :=
  join_two c (halves_disjoint j) (halves_union j)

end Cert.Rs
-- ==== Proof.Parts.lean ====
/-
# The printed parts of the body, each from what it needs to what it leaves
-/
module

public import proofs.«01_k».proof.Proof.Ops
public import proofs.«01_k».proof.Proof.Geo

@[expose] public section

noncomputable section

namespace Cert.Rs

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (K : Dev nD × Fin 29 → ℕ)

/-! ## Loads and stores by name -/

section Access
variable {α : Type} (c : Dev nD)

/-- A load through part of the rectangle one owns. -/
theorem wp_loadIn {Q : α → sProp 𝕄} {s : Shape} {e : EltTy} {v : Memref sig .tc .vmem s e} {r r' : Rect s} {hs} {hl : v.view.LoadsAt r.toLoadRect}
    (p : r.shape.Idx → r'.shape.Idx) (h : ∀ j, r.emb j = r'.emb (p j))
    {k : (r.shape.Idx → Elt F e) → Prog (TpuEff nD τ sig (Elt F) Λ₀ .tc) α} {X : r'.shape.Idx → Elt F e} :
    OWN c (v.slice r' hs) X ⊢ iprop((OWN c (v.slice r' hs) X -∗ WP c (k fun j => X (p j)) Q) -∗ WP c (.op (.load v r.toLoadRect hl) k) Q) := by
  have hsub : (v.access r).set ⊆ (v.slice r' hs).view.set := by
    intro i hi
    rw [View.set_slice] at hi
    obtain ⟨x, hx, rfl⟩ := Finset.mem_map.mp hi
    obtain ⟨y, -, rfl⟩ := Finset.mem_map.mp (r.map_emb_univ ▸ hx)
    show v.view.emb (r.emb y) ∈ (v.view.slice r').set
    rw [h, View.set_slice]
    exact Finset.mem_map_of_mem _ (r'.map_emb_univ ▸ Finset.mem_map_of_mem r'.emb (Finset.mem_univ (p y)))
  unfold OWN owns
  iintro ⟨%f, %hf, H⟩ Hk
  iapply (wp_load_rect 𝒱₀ (c : Thread nD τ) none Set.univ (m := v) (r := r) (S := (v.slice r' hs).view.set) hsub) $$ H
  iintro H
  have h : (v.access r).read (Elt F) f = fun j => X (p j) := by
    subst hf
    funext j
    show v.view.read (Elt F) f (r.emb j) = v.view.read (Elt F) f (r'.emb (p j))
    rw [h]
  rw [h]
  iapply Hk
  iexists f
  isplitr
  · ipureintro; exact hf
  · iexact H

/-- A load of everything one owns. -/
theorem wp_loadAll {Q : α → sProp 𝕄} {s : Shape} {e : EltTy} {v : Memref sig .tc .vmem s e} {off : Fin s.rank → ℕ} (h : ∀ a, off a = 0) {inb}
    {hl : v.view.LoadsAt (Rect.unit (s := s) off s.size inb).toLoadRect} {k : (s.Idx → Elt F e) → Prog (TpuEff nD τ sig (Elt F) Λ₀ .tc) α} {X : s.Idx → Elt F e} :
    OWN c v X ⊢ iprop((OWN c v X -∗ WP c (k X) Q) -∗ WP c (.op (.load v (Rect.unit (s := s) off s.size inb).toLoadRect hl) k) Q) := by
  have := wp_loadW c (Q := Q) (v := v) (r := Rect.unit (s := s) off s.size inb) (hl := hl) (k := k) (X := X)
  rw [all_at h inb X] at this
  exact this
/-- A load of some rows of the device's `x`. -/
theorem wp_loadRows {Q : α → sProp 𝕄} (d : Dev nD) {v : Memref sig .tc .vmem S4096x1024 .bf16} {off : Fin 2 → ℕ} (h : off = ![1024 * d.val, 0]) {inb}
    {hl : v.view.LoadsAt (Rect.unit (s := S4096x1024) off S1024x1024.size inb).toLoadRect} {k : (S1024x1024.Idx → Elt F .bf16) → Prog (TpuEff nD τ sig (Elt F) Λ₀ .tc) α} :
    OWN c v (xblk m c) ⊢ iprop((OWN c v (xblk m c) -∗ WP c (k (xrow m c d)) Q)
      -∗ WP c (.op (.load v (Rect.unit (s := S4096x1024) off S1024x1024.size inb).toLoadRect hl) k) Q) := by
  have := wp_loadW c (Q := Q) (v := v) (r := Rect.unit (s := S4096x1024) off S1024x1024.size inb) (hl := hl) (k := k) (X := xblk m c)
  rw [xrow_at m c d h inb] at this
  exact this
theorem any_elim {s : Shape} {e : EltTy} {v : Memref sig .tc .vmem s e} : anyAt (F := F) c v ⊢ iprop(∃ X, OWN c v X) := .rfl
/-- A load whose result is not used. -/
theorem wp_loadA {Q : α → sProp 𝕄} {s : Shape} {e : EltTy} {v : Memref sig .tc .vmem s e} {off off' size : Fin s.rank → ℕ} {inb : ∀ a, off a + size a ≤ s.size a} {inb' : ∀ a, off' a + size a ≤ s.size a}
    (h : off = off') {hs : ∀ a, (Rect.unit off' size inb').stride a = 1} {hl : v.view.LoadsAt (Rect.unit off size inb).toLoadRect}
    {k : ((Rect.unit off size inb).shape.Idx → Elt F e) → Prog (TpuEff nD τ sig (Elt F) Λ₀ .tc) α} :
    anyAt c (v.slice (Rect.unit off' size inb') hs)
      ⊢ iprop((∀ X, anyAt c (v.slice (Rect.unit off' size inb') hs) -∗ WP c (k X) Q) -∗ WP c (.op (.load v (Rect.unit off size inb).toLoadRect hl) k) Q) := by
  iintro H Hk
  ihave H := (any_elim c (v := v.slice (Rect.unit off' size inb') hs)) $$ H
  icases H with ⟨%X, H⟩
  iapply (wp_loadS c (v := v) h (hs := hs)) $$ H
  iintro H
  iapply Hk $$ %X
  iapply (any_intro c) $$ H
theorem wp_loadAW {Q : α → sProp 𝕄} {s : Shape} {e : EltTy} {v : Memref sig .tc .vmem s e} {r : Rect s} {hl : v.view.LoadsAt r.toLoadRect}
    {k : (r.shape.Idx → Elt F e) → Prog (TpuEff nD τ sig (Elt F) Λ₀ .tc) α} {X : s.Idx → Elt F e} :
    OWN c v X ⊢ iprop((∀ Y, OWN c v X -∗ WP c (k Y) Q) -∗ WP c (.op (.load v r.toLoadRect hl) k) Q) := by
  iintro H Hk
  iapply (wp_loadW c) $$ H
  iintro H
  iapply Hk $$ %_ H

variable (u : ℕ) (s : Fin 2)
theorem wp_loadDir {Q : α → sProp 𝕄} {off : Fin 4 → ℕ} (h : off = ![u % 4, s.val, 0, 0]) {inb} {hl : dirB.view.LoadsAt (Rect.unit (s := S4x2x1024x512) off S1x1x1024x512.size inb).toLoadRect}
    {k : (S1x1x1024x512.Idx → Elt F .bf16) → Prog (TpuEff nD τ sig (Elt F) Λ₀ .tc) α} {X : S1x1x1024x512.Idx → Elt F .bf16} :
    OWN c (rslot4 0 u s) X ⊢ iprop((OWN c (rslot4 0 u s) X -∗ WP c (k X) Q) -∗ WP c (.op (.load dirB (Rect.unit (s := S4x2x1024x512) off S1x1x1024x512.size inb).toLoadRect hl) k) Q) :=
  wp_loadS c h (hs := fun _ => rfl)
theorem wp_loadRel {Q : α → sProp 𝕄} {off : Fin 4 → ℕ} (h : off = ![u % 3, s.val, 0, 0]) {inb} {hl : relB.view.LoadsAt (Rect.unit (s := S3x2x1024x512) off S1x1x1024x512.size inb).toLoadRect}
    {k : (S1x1x1024x512.Idx → Elt F .bf16) → Prog (TpuEff nD τ sig (Elt F) Λ₀ .tc) α} {X : S1x1x1024x512.Idx → Elt F .bf16} :
    OWN c (rslot4 1 u s) X ⊢ iprop((OWN c (rslot4 1 u s) X -∗ WP c (k X) Q) -∗ WP c (.op (.load relB (Rect.unit (s := S3x2x1024x512) off S1x1x1024x512.size inb).toLoadRect hl) k) Q) :=
  wp_loadS c h (hs := fun _ => rfl)
theorem wp_loadCom {Q : α → sProp 𝕄} {off : Fin 4 → ℕ} (h : off = ![u % 4, s.val, 0, 0]) {inb} {hl : comB.view.LoadsAt (Rect.unit (s := S4x2x1024x512) off S1x1x1024x512.size inb).toLoadRect}
    {k : (S1x1x1024x512.Idx → Elt F .bf16) → Prog (TpuEff nD τ sig (Elt F) Λ₀ .tc) α} {X : S1x1x1024x512.Idx → Elt F .bf16} :
    OWN c (rslot4 2 u s) X ⊢ iprop((OWN c (rslot4 2 u s) X -∗ WP c (k X) Q) -∗ WP c (.op (.load comB (Rect.unit (s := S4x2x1024x512) off S1x1x1024x512.size inb).toLoadRect hl) k) Q) :=
  wp_loadS c h (hs := fun _ => rfl)
/-- Half `h` of the device's own partial product. -/
theorem wp_loadOwn {Q : α → sProp 𝕄} (j h : Fin 2) {off : Fin 3 → ℕ} (ho : off = ![j.val, 0, 512 * h.val]) {inb} {hl : ownB.view.LoadsAt (Rect.unit (s := S2x1024x1024) off S1x1024x512.size inb).toLoadRect}
    {k : (S1x1024x512.Idx → Elt F .bf16) → Prog (TpuEff nD τ sig (Elt F) Λ₀ .tc) α} {X : S1x1024x1024.Idx → Elt F .bf16} :
    OWN c (ownP j) X ⊢ iprop((OWN c (ownP j) X -∗ WP c (k (half h X)) Q) -∗ WP c (.op (.load ownB (Rect.unit (s := S2x1024x1024) off S1x1024x512.size inb).toLoadRect hl) k) Q) := by
  subst ho
  exact wp_loadIn c (v := ownB) (r' := Rect.unit ![j.val, 0, 0] S1x1024x1024.size (inb3p j)) (r := Rect.unit ![j.val, 0, 512 * h.val] S1x1024x512.size inb) (hs := fun _ => rfl) _ (half_at (j := j) h X (inbh h))
theorem wp_storeD {Q : α → sProp 𝕄} {s : Shape} {e : EltTy} {v : Memref sig .tc .vmem s e} {off off' size : Fin s.rank → ℕ} {inb : ∀ a, off a + size a ≤ s.size a} {inb' : ∀ a, off' a + size a ≤ s.size a}
    (h : off = off') {hs : ∀ a, (Rect.unit off' size inb').stride a = 1} {w} {hl : v.view.LoadsAt (Rect.unit off size inb).toLoadRect} {hx} {hm}
    {k : PUnit → Prog (TpuEff nD τ sig (Elt F) Λ₀ .tc) α} :
    anyAt c (v.slice (Rect.unit off' size inb') hs) ⊢ iprop((OWN c (v.slice (Rect.unit off' size inb') hs) w -∗ WP c (k ⟨⟩) Q)
      -∗ WP c (.op (.load v (Rect.unit off size inb).toLoadRect hl) fun _ => .op (.store v (Rect.unit off size inb) w Finset.univ hx hm) k) Q) := by
  iintro H Hk
  iapply (wp_loadA c (v := v) h (inb' := inb') (hs := hs)) $$ H
  iintro %X H
  iapply (wp_storeS c (v := v) h (inb' := inb') (hs := hs)) $$ H
  iexact Hk
theorem wp_store1 {Q : α → sProp 𝕄} {off : Fin 3 → ℕ} (h : off = ![s.val, 0, 0]) {inb} {w : S1x1024x512.Idx → Elt F .bf16} {hl} {hx} {hm}
    {k : PUnit → Prog (TpuEff nD τ sig (Elt F) Λ₀ .tc) α} :
    anyAt c (src3 1 s) ⊢ iprop((OWN c (src3 1 s) w -∗ WP c (k ⟨⟩) Q)
      -∗ WP c (.op (.load rsndB (Rect.unit (s := S2x1024x512) off S1x1024x512.size inb).toLoadRect hl) fun _ => .op (.store rsndB (Rect.unit (s := S2x1024x512) off S1x1024x512.size inb) w Finset.univ hx hm) k) Q) :=
  wp_storeD c h (inb' := inb3s s) (hs := fun _ => rfl)
theorem wp_store2 {Q : α → sProp 𝕄} {off : Fin 3 → ℕ} (h : off = ![s.val, 0, 0]) {inb} {w : S1x1024x512.Idx → Elt F .bf16} {hl} {hx} {hm}
    {k : PUnit → Prog (TpuEff nD τ sig (Elt F) Λ₀ .tc) α} :
    anyAt c (src3 2 s) ⊢ iprop((OWN c (src3 2 s) w -∗ WP c (k ⟨⟩) Q)
      -∗ WP c (.op (.load csndB (Rect.unit (s := S2x1024x512) off S1x1024x512.size inb).toLoadRect hl) fun _ => .op (.store csndB (Rect.unit (s := S2x1024x512) off S1x1024x512.size inb) w Finset.univ hx hm) k) Q) :=
  wp_storeD c h (inb' := inb3s s) (hs := fun _ => rfl)
/-- A partial product for a neighbour's rows is stored as a plane and kept as two halves. -/
theorem wp_storeN {Q : α → sProp 𝕄} (j : Fin 2) {off : Fin 3 → ℕ} (h : off = ![j.val, 0, 0]) {inb} {w : S1x1024x1024.Idx → Elt F .bf16} {hl} {hx} {hm}
    {k : PUnit → Prog (TpuEff nD τ sig (Elt F) Λ₀ .tc) α} :
    iprop(anyAt c (nbrH j 0) ∗ anyAt c (nbrH j 1)) ⊢ iprop(((OWN c (nbrH j 0) (half 0 w) ∗ OWN c (nbrH j 1) (half 1 w)) -∗ WP c (k ⟨⟩) Q)
      -∗ WP c (.op (.load nbrB (Rect.unit (s := S2x1024x1024) off S1x1024x1024.size inb).toLoadRect hl) fun _ => .op (.store nbrB (Rect.unit (s := S2x1024x1024) off S1x1024x1024.size inb) w Finset.univ hx hm) k) Q) := by
  iintro H Hk
  ihave H := (plane_join c j) $$ H
  iapply (wp_storeD c (v := nbrB) h (inb' := inb3p j) (hs := fun _ => rfl)) $$ H
  iintro H
  iapply Hk
  iapply (plane_split c j) $$ H
theorem wp_storeOwn {Q : α → sProp 𝕄} (j : Fin 2) {off : Fin 3 → ℕ} (h : off = ![j.val, 0, 0]) {inb} {w : S1x1024x1024.Idx → Elt F .bf16} {hl} {hx} {hm}
    {k : PUnit → Prog (TpuEff nD τ sig (Elt F) Λ₀ .tc) α} :
    anyAt c (ownP j) ⊢ iprop((OWN c (ownP j) w -∗ WP c (k ⟨⟩) Q)
      -∗ WP c (.op (.load ownB (Rect.unit (s := S2x1024x1024) off S1x1024x1024.size inb).toLoadRect hl) fun _ => .op (.store ownB (Rect.unit (s := S2x1024x1024) off S1x1024x1024.size inb) w Finset.univ hx hm) k) Q) :=
  wp_storeD c h (inb' := inb3p j) (hs := fun _ => rfl)
end Access

theorem extra_emp (k : Fin 3) (h : k ≠ 1) (u : ℕ) (s : Fin 2) (c : Dev nD) : EXTRA (F := F) k u s c = iprop(emp) := if_neg fun h' => h h'.1
theorem val2_0 (c : Dev nD) (u : ℕ) : k0_pay6 (half 0 (nbrM m c u 1)) (got m 1 u 0 c) = val m 2 u 0 c := rfl
theorem val2_1 (c : Dev nD) (u : ℕ) : k0_pay7 (half 1 (nbrM m c u 0)) (got m 1 u 1 c) = val m 2 u 1 c := rfl
theorem val1_0 (c : Dev nD) (u : ℕ) : k0_pay11 (k0_pay8 (wblk m c u)) (xrow m c (opp c)) = val m 1 u 0 c := rfl
theorem val1_1 (c : Dev nD) (u : ℕ) : k0_pay16 (k0_pay8 (wblk m c u)) (xrow m c (opp c)) = val m 1 u 1 c := rfl
theorem nbrM_0 (c : Dev nD) (u : ℕ) : k0_pay9 (wblk m c u) (xrow m c (nb 0 c)) = nbrM m c u 0 := rfl
theorem nbrM_1 (c : Dev nD) (u : ℕ) : k0_pay10 (wblk m c u) (xrow m c (nb 1 c)) = nbrM m c u 1 := rfl
theorem val0 (c : Dev nD) (u : ℕ) (s : Fin 2) : half s (nbrM m c u s) = val m 0 u s c := rfl

/-! ## The printed parts -/

section Parts
variable (c : Dev nD) (t : Fin cfg0.N) (M1 : Memref sig .tc .vmem S4096x1024 .bf16) (h1 : M1.IsWhole) (M2 : Memref sig .tc .vmem S1024x1024 .bf16) (h2 : M2.IsWhole)
  (M3 : Memref sig .tc .vmem S1024x1024 .f32) (h3 : M3.IsWhole) (M4 : Memref sig .tc .vmem S1x128 .f32) (h4 : M4.IsWhole)

/-- Three of the four departures of the step before. -/
theorem part1_spec (u : ℕ) (hu : u < 8) (O : CellTallies nD τ sig ℕ) (hO : Above 0 O) :
    iprop(ctx m K ∗ sndF 0 0 u c ∗ sndF 1 0 u c ∗ sndF 0 1 u c ∗ OWES c O)
      ⊢ WP c (k0_part1 (F := F) (G t) M1 h1 M2 h2 M3 h3 M4 h4 nbrB (Memref.isWhole_whole _) ownB (Memref.isWhole_whole _) rsndB (Memref.isWhole_whole _) csndB (Memref.isWhole_whole _)
          dirB (Memref.isWhole_whole _) relB (Memref.isWhole_whole _) comB (Memref.isWhole_whole _) cc0_scratch7 cc0_scratch8 cc0_scratch9 cc0_scratch10)
        fun _ => iprop(sndI 0 0 (u + 1) c ∗ sndI 1 0 (u + 1) c ∗ sndI 0 1 (u + 1) c ∗ OWES c O) := by
  rw [k0_part1_eq_skeleton]
  unfold k0_part1_skel
  simp only [Prog.lift, Prog.bind_op, Prog.bind_ret, Prog.pure_eq_ret]
  iintro ⟨#HC, H0, H1, H2, HO⟩
  iapply (wp_sent m K c 0 u 0 hu O hO (src0_off 0 rfl _) (semS_off 0 0 rfl _)) $$ [H0 HO]
  · isplitr; · iexact HC
    isplitl [H0] <;> iassumption
  iintro ⟨H0, HO⟩
  iapply (wp_sent m K c 1 u 0 hu O hO (src1_off 0 rfl _) (semS_off 1 0 rfl _)) $$ [H1 HO]
  · isplitr; · iexact HC
    isplitl [H1] <;> iassumption
  iintro ⟨H1, HO⟩
  iapply (wp_sent m K c 0 u 1 hu O hO (src0_off 1 rfl _) (semS_off 0 1 rfl _)) $$ [H2 HO]
  · isplitr; · iexact HC
    isplitl [H2] <;> iassumption
  iintro ⟨H2, HO⟩
  iapply (wp_done c)
  isplitl [H0]; · iexact H0
  isplitl [H1]; · iexact H1
  isplitl [H2] <;> iassumption

/-- The relayed half of stream 0 arrives and is added to the device's own. -/
theorem part2_spec (ht : 1 ≤ t.val ∧ t.val ≤ 8) (a0 v2 v7 : BitVec 32) (hc : k0_cond4 (G t) = 1#1) (O : CellTallies nD τ sig ℕ) (hO : Above (2 * (t.val - 1) + 2) O) :
    iprop(ctx m K ∗ POS 1 0 (t.val - 1) c ∗ CR 1 0 (t.val - 1) c ∗ OWES c O ∗ OWN c (nbrH 1 0) (half 0 (nbrM m c (t.val - 1) 1)) ∗ anyAt c (src3 2 0))
      ⊢ WP c (k0_part2 (F := F) (G t) M1 h1 M2 h2 M3 h3 M4 h4 nbrB (Memref.isWhole_whole _) ownB (Memref.isWhole_whole _) rsndB (Memref.isWhole_whole _) csndB (Memref.isWhole_whole _)
          dirB (Memref.isWhole_whole _) relB (Memref.isWhole_whole _) comB (Memref.isWhole_whole _) cc0_scratch7 cc0_scratch8 cc0_scratch9 cc0_scratch10 a0 v2 v7 hc)
        fun _ => iprop(POS 1 0 (t.val - 1 + 1) c ∗ CR 1 0 (t.val - 1 + 1) c ∗ OWES c O ∗ anyAt c (nbrH 1 0) ∗ OWN c (src3 2 0) (val m 2 (t.val - 1) 0 c)
          ∗ permit 1 (t.val - 1 + 3) 0 c ∗ EXTRA 1 (t.val - 1) 0 c) := by
  have hu : t.val - 1 < 8 := by omega
  rw [k0_part2_eq_skeleton]
  unfold k0_part2_skel
  simp only [Prog.lift, Prog.bind_op, Prog.bind_ret, Prog.pure_eq_ret]
  iintro ⟨#HC, Hp, Hc, HO, Hn, Hs⟩
  iapply (wp_recv m K c 1 (t.val - 1) 0 hu O (by rw [if_neg (by decide)]; exact hO) (relV_off (off2_at t ht.1) _) (semR_off (off1_at t ht.1) _)) $$ [Hp Hc HO]
  · isplitr; · iexact HC
    isplitl [Hp]; · iexact Hp
    isplitl [Hc] <;> iassumption
  iintro ⟨Hp, Hc, HO, Hr, #Hre, HE⟩
  iapply (wp_loadS c (v := nbrB) (off' := ![(1 : Fin 2).val, 0, 512 * (0 : Fin 2).val]) (inb' := inb3h 1 0) (hs := fun _ => rfl) rfl) $$ Hn
  iintro Hn
  iapply (wp_loadRel c (t.val - 1) 0 (off3_at t ht.1)) $$ Hr
  iintro Hr
  iapply (wp_store2 c 0 rfl) $$ Hs
  iintro Hs
  rw [val2_0]
  iapply (wp_done c)
  isplitl [Hp]; · iexact Hp
  isplitl [Hc]; · iexact Hc
  isplitl [HO]; · iexact HO
  isplitl [Hn]; · iapply (any_intro c) $$ Hn
  isplitl [Hs]; · iexact Hs
  isplitl [Hr]
  · iapply (permit_of c 1 (t.val - 1) 0)
    isplitl [Hr]; · iexact Hr
    iexact Hre
  iexact HE

/-- Stream 0's sum goes on; the relayed half of stream 1 arrives and is added. -/
theorem part3_spec (ht : 1 ≤ t.val ∧ t.val ≤ 8) (v2 v36 : BitVec 32) (hc : k0_cond4 (G t) = 1#1) (O : CellTallies nD τ sig ℕ) (hO : Above (2 * (t.val - 1) + 2) O) :
    iprop(ctx m K ∗ OWN c (src3 2 0) (val m 2 (t.val - 1) 0 c) ∗ permit 2 (t.val - 1) 0 (dst 2 0 c) ∗ sndC 2 0 (t.val - 1) c ∗ TOK 2 0 (t.val - 1) c ∗ OWES c (O + due c 2 (t.val - 1) 0)
        ∗ POS 1 1 (t.val - 1) c ∗ CR 1 1 (t.val - 1) c ∗ OWN c (nbrH 0 1) (half 1 (nbrM m c (t.val - 1) 0)) ∗ anyAt c (src3 2 1))
      ⊢ WP c (k0_part3 (F := F) (G t) M1 h1 M2 h2 M3 h3 M4 h4 nbrB (Memref.isWhole_whole _) ownB (Memref.isWhole_whole _) rsndB (Memref.isWhole_whole _) csndB (Memref.isWhole_whole _)
          dirB (Memref.isWhole_whole _) relB (Memref.isWhole_whole _) comB (Memref.isWhole_whole _) cc0_scratch7 cc0_scratch8 cc0_scratch9 cc0_scratch10 c v2 hc v36)
        fun _ => iprop(sndF 2 0 (t.val - 1) c ∗ TOK 2 0 (t.val - 1 + 1) c ∗ OWES c O ∗ POS 1 1 (t.val - 1 + 1) c ∗ CR 1 1 (t.val - 1 + 1) c ∗ anyAt c (nbrH 0 1)
          ∗ OWN c (src3 2 1) (val m 2 (t.val - 1) 1 c) ∗ permit 1 (t.val - 1 + 3) 1 c ∗ EXTRA 1 (t.val - 1) 1 c) := by
  have hu : t.val - 1 < 8 := by omega
  rw [k0_part3_eq_skeleton]
  unfold k0_part3_skel
  simp only [Prog.lift, Prog.bind_op, Prog.bind_ret, Prog.pure_eq_ret]
  iintro ⟨#HC, Hs0, Hpe, Hsc, Htk, HO, Hp, Hc, Hn, Hs⟩
  iapply (wp_send m K c 2 (t.val - 1) 0 hu O (dev3_dst c _) (src2_off 0 rfl _) (comV_off (off5_at t ht.1) _) (semS_off 2 0 rfl _) (semC_off (off4_at t ht.1) _) rfl) $$ [Hs0 Hpe Hsc Htk HO]
  · isplitr; · iexact HC
    isplitl [Hs0]; · iexact Hs0
    isplitl [Hpe]; · iexact Hpe
    isplitr; · rw [extra_emp 2 (by decide)]; iempintro
    isplitl [Hsc]; · iexact Hsc
    isplitl [Htk] <;> iassumption
  iintro ⟨HF, Htk, HO⟩
  iapply (wp_recv m K c 1 (t.val - 1) 1 hu O (by rw [if_neg (by decide)]; exact hO) (relV_off (off7_at t ht.1) _) (semR_off (off6_at t ht.1) _)) $$ [Hp Hc HO]
  · isplitr; · iexact HC
    isplitl [Hp]; · iexact Hp
    isplitl [Hc] <;> iassumption
  iintro ⟨Hp, Hc, HO, Hr, #Hre, HE⟩
  iapply (wp_loadS c (v := nbrB) (off' := ![(0 : Fin 2).val, 0, 512 * (1 : Fin 2).val]) (inb' := inb3h 0 1) (hs := fun _ => rfl) rfl) $$ Hn
  iintro Hn
  iapply (wp_loadRel c (t.val - 1) 1 (off8_at t ht.1)) $$ Hr
  iintro Hr
  iapply (wp_store2 c 1 rfl) $$ Hs
  iintro Hs
  rw [val2_1]
  iapply (wp_done c)
  isplitl [HF]; · iexact HF
  isplitl [Htk]; · iexact Htk
  isplitl [HO]; · iexact HO
  isplitl [Hp]; · iexact Hp
  isplitl [Hc]; · iexact Hc
  isplitl [Hn]; · iapply (any_intro c) $$ Hn
  isplitl [Hs]; · iexact Hs
  isplitl [Hr]
  · iapply (permit_of c 1 (t.val - 1) 1)
    isplitl [Hr]; · iexact Hr
    iexact Hre
  iexact HE

/-- The partial products for the neighbours' rows. -/
theorem part4_spec (a0 v2 v4 v7 : BitVec 32) (hc : k0_cond5 (G t) = 1#1) :
    iprop(OWN c M2 (wblk m c t.val) ∗ OWN c M1 (xblk m c) ∗ anyAt c (src3 0 0) ∗ anyAt c (nbrH 0 1) ∗ anyAt c (nbrH 1 0) ∗ anyAt c (src3 0 1))
      ⊢ WP c (k0_part4 (F := F) (G t) M1 h1 M2 h2 M3 h3 M4 h4 nbrB (Memref.isWhole_whole _) ownB (Memref.isWhole_whole _) rsndB (Memref.isWhole_whole _) csndB (Memref.isWhole_whole _)
          dirB (Memref.isWhole_whole _) relB (Memref.isWhole_whole _) comB (Memref.isWhole_whole _) cc0_scratch7 cc0_scratch8 cc0_scratch9 cc0_scratch10 a0 c v2 v4 v7 hc)
        fun r => iprop(⌜r.1 = k0_pay8 (wblk m c t.val)⌝ ∗ OWN c M2 (wblk m c t.val) ∗ OWN c M1 (xblk m c) ∗ OWN c (src3 0 0) (val m 0 t.val 0 c)
          ∗ OWN c (nbrH 0 1) (half 1 (nbrM m c t.val 0)) ∗ OWN c (nbrH 1 0) (half 0 (nbrM m c t.val 1)) ∗ OWN c (src3 0 1) (val m 0 t.val 1 c)) := by
  rw [k0_part4_eq_skeleton]
  unfold k0_part4_skel
  simp only [Prog.lift, Prog.bind_op, Prog.bind_ret, Prog.pure_eq_ret]
  iintro ⟨H2, H1, Ha, Hb, Hc, Hd⟩
  iapply (wp_loadAll c (v := M2) (by decide)) $$ H2
  iintro H2
  iapply (wp_loadRows m c (nb 0 c) (off11_nb c)) $$ H1
  iintro H1
  iapply (wp_storeN c 0 rfl) $$ [Ha Hb]
  · isplitl [Ha]; · iexact Ha
    iexact Hb
  iintro ⟨Ha, Hb⟩
  iapply (wp_loadRows m c (nb 1 c) (off12_nb c)) $$ H1
  iintro H1
  iapply (wp_storeN c 1 rfl) $$ [Hc Hd]
  · isplitl [Hc]; · iexact Hc
    iexact Hd
  iintro ⟨Hc, Hd⟩
  rw [nbrM_0, nbrM_1]
  iapply (wp_done c)
  isplitr; · ipureintro; rfl
  isplitl [H2]; · iexact H2
  isplitl [H1]; · iexact H1
  isplitl [Ha]; · iexact Ha
  isplitl [Hb]; · iexact Hb
  isplitl [Hc]; · iexact Hc
  iexact Hd

/-- Stream 0's direct and relayed halves leave. -/
theorem part5_spec (ht : t.val ≤ 7) (v7 v58 : BitVec 32) (hc : k0_cond5 (G t) = 1#1) (O : CellTallies nD τ sig ℕ) :
    iprop(ctx m K ∗ OWN c M1 (xblk m c) ∗ OWN c (src3 0 0) (val m 0 t.val 0 c) ∗ permit 0 t.val 0 (dst 0 0 c) ∗ sndC 0 0 t.val c ∗ TOK 0 0 t.val c
        ∗ OWES c (O + due c 1 t.val 0 + due c 0 t.val 0)
        ∗ anyAt c (src3 1 0) ∗ permit 1 t.val 0 (dst 1 0 c) ∗ EXTRA 1 t.val 0 (dst 1 0 c) ∗ sndC 1 0 t.val c ∗ TOK 1 0 t.val c)
      ⊢ WP c (k0_part5 (F := F) (G t) M1 h1 M2 h2 M3 h3 M4 h4 nbrB (Memref.isWhole_whole _) ownB (Memref.isWhole_whole _) rsndB (Memref.isWhole_whole _) csndB (Memref.isWhole_whole _)
          dirB (Memref.isWhole_whole _) relB (Memref.isWhole_whole _) comB (Memref.isWhole_whole _) cc0_scratch7 cc0_scratch8 cc0_scratch9 cc0_scratch10 c v7 hc (k0_pay8 (wblk m c t.val)) v58)
        fun _ => iprop(OWN c M1 (xblk m c) ∗ sndF 0 0 t.val c ∗ TOK 0 0 (t.val + 1) c ∗ OWES c O ∗ sndF 1 0 t.val c ∗ TOK 1 0 (t.val + 1) c) := by
  have hu : t.val < 8 := by omega
  rw [k0_part5_eq_skeleton]
  unfold k0_part5_skel
  simp only [Prog.lift, Prog.bind_op, Prog.bind_ret, Prog.pure_eq_ret]
  iintro ⟨#HC, H1, Hs0, Hp0, Hc0, Ht0, HO, Hs1, Hp1, HE, Hc1, Ht1⟩
  iapply (wp_send m K c 0 t.val 0 hu (O + due c 1 t.val 0) (dev5_dst c _) (src0_off 0 rfl _) (dirV_off (off14_at t) _) (semS_off 0 0 rfl _) (semD_off (off13_at t) _) rfl) $$ [Hs0 Hp0 Hc0 Ht0 HO]
  · isplitr; · iexact HC
    isplitl [Hs0]; · iexact Hs0
    isplitl [Hp0]; · iexact Hp0
    isplitr; · rw [extra_emp 0 (by decide)]; iempintro
    isplitl [Hc0]; · iexact Hc0
    isplitl [Ht0] <;> iassumption
  iintro ⟨HF0, Ht0, HO⟩
  iapply (wp_loadRows m c (opp c) (off11_opp c)) $$ H1
  iintro H1
  iapply (wp_store1 c 0 rfl) $$ Hs1
  iintro Hs1
  rw [val1_0]
  iapply (wp_send m K c 1 t.val 0 hu O (dev6_dst c _) (src1_off 0 rfl _) (relV_off (off16_at t) _) (semS_off 1 0 rfl _) (semR_off (off15_at t) _) rfl) $$ [Hs1 Hp1 HE Hc1 Ht1 HO]
  · isplitr; · iexact HC
    isplitl [Hs1]; · iexact Hs1
    isplitl [Hp1]; · iexact Hp1
    isplitl [HE]; · iexact HE
    isplitl [Hc1]; · iexact Hc1
    isplitl [Ht1] <;> iassumption
  iintro ⟨HF1, Ht1, HO⟩
  iapply (wp_done c)
  isplitl [H1]; · iexact H1
  isplitl [HF0]; · iexact HF0
  isplitl [Ht0]; · iexact Ht0
  isplitl [HO]; · iexact HO
  isplitl [HF1] <;> iassumption

/-- Stream 0's direct and combined halves arrive. -/
theorem part6_spec (ht : 2 ≤ t.val) (ht' : t.val ≤ 9) (j : Fin 2) (hj : j.val = (t.val - 2) % 2) (a0 v2 : BitVec 32) (hc : k0_cond6 (G t) = 1#1) (O : CellTallies nD τ sig ℕ) (hO : Above (2 * (t.val - 2) + 3) O) :
    iprop(ctx m K ∗ POS 0 0 (t.val - 2) c ∗ CR 0 0 (t.val - 2) c ∗ POS 2 0 (t.val - 2) c ∗ CR 2 0 (t.val - 2) c ∗ OWES c O ∗ OWN c (ownP j) (ownM m c (t.val - 2)))
      ⊢ WP c (k0_part6 (F := F) (G t) M1 h1 M2 h2 M3 h3 M4 h4 nbrB (Memref.isWhole_whole _) ownB (Memref.isWhole_whole _) rsndB (Memref.isWhole_whole _) csndB (Memref.isWhole_whole _)
          dirB (Memref.isWhole_whole _) relB (Memref.isWhole_whole _) comB (Memref.isWhole_whole _) cc0_scratch7 cc0_scratch8 cc0_scratch9 cc0_scratch10 a0 v2 hc)
        fun r => iprop(⌜r.2.2.1 = k0_pay12 (half 0 (ownM m c (t.val - 2))) ∧ r.2.2.2 = k0_pay13 (got m 0 (t.val - 2) 0 c)⌝
          ∗ POS 0 0 (t.val - 2 + 1) c ∗ CR 0 0 (t.val - 2 + 1) c ∗ POS 2 0 (t.val - 2 + 1) c ∗ CR 2 0 (t.val - 2 + 1) c ∗ OWES c O ∗ OWN c (ownP j) (ownM m c (t.val - 2))
          ∗ permit 0 (t.val - 2 + 4) 0 c ∗ OWN c (rslot4 2 (t.val - 2) 0) (got m 2 (t.val - 2) 0 c) ∗ reached ER (rcell 2 (t.val - 2 + 4) 0 c) ((t.val - 2 + 4) / 4)) := by
  have hu : t.val - 2 < 8 := by omega
  rw [k0_part6_eq_skeleton]
  unfold k0_part6_skel
  simp only [Prog.lift, Prog.bind_op, Prog.bind_ret, Prog.pure_eq_ret]
  iintro ⟨#HC, Hp0, Hc0, Hp2, Hc2, HO, Hw⟩
  iapply (wp_recv m K c 0 (t.val - 2) 0 hu O (by rw [if_neg (by decide)]; exact hO.mono (by omega)) (dirV_off (off22_at t ht) _) (semD_off (off21_at t ht) _)) $$ [Hp0 Hc0 HO]
  · isplitr; · iexact HC
    isplitl [Hp0]; · iexact Hp0
    isplitl [Hc0] <;> iassumption
  iintro ⟨Hp0, Hc0, HO, Hr0, #Hre0, -⟩
  iapply (wp_recv m K c 2 (t.val - 2) 0 hu O (by rw [if_pos rfl]; exact hO) (comV_off (off22_at t ht) _) (semC_off (off21_at t ht) _)) $$ [Hp2 Hc2 HO]
  · isplitr; · iexact HC
    isplitl [Hp2]; · iexact Hp2
    isplitl [Hc2] <;> iassumption
  iintro ⟨Hp2, Hc2, HO, Hr2, #Hre2, -⟩
  iapply (wp_loadOwn c j 0 (by rw [hj]; exact off23_at t ht)) $$ Hw
  iintro Hw
  iapply (wp_loadDir c (t.val - 2) 0 (off24_at t ht)) $$ Hr0
  iintro Hr0
  iapply (wp_done c)
  isplitr; · ipureintro; exact ⟨rfl, rfl⟩
  isplitl [Hp0]; · iexact Hp0
  isplitl [Hc0]; · iexact Hc0
  isplitl [Hp2]; · iexact Hp2
  isplitl [Hc2]; · iexact Hc2
  isplitl [HO]; · iexact HO
  isplitl [Hw]; · iexact Hw
  isplitl [Hr0]
  · iapply (permit_of c 0 (t.val - 2) 0)
    isplitl [Hr0]; · iexact Hr0
    iexact Hre0
  isplitl [Hr2]; · iexact Hr2
  iexact Hre2

/-- The left half of the result; stream 1's direct half arrives. -/
theorem part7_spec (ht : 2 ≤ t.val) (ht' : t.val ≤ 9) (v2 v36 : BitVec 32) (hc : k0_cond6 (G t) = 1#1) (O : CellTallies nD τ sig ℕ) (hO : Above (2 * (t.val - 2) + 3) O) (Y) :
    iprop(ctx m K ∗ OWN c (rslot4 2 (t.val - 2) 0) (got m 2 (t.val - 2) 0 c) ∗ reached ER (rcell 2 (t.val - 2 + 4) 0 c) ((t.val - 2 + 4) / 4)
        ∗ OWN c M3 Y ∗ POS 0 1 (t.val - 2) c ∗ CR 0 1 (t.val - 2) c ∗ OWES c O)
      ⊢ WP c (k0_part7 (F := F) (G t) M1 h1 M2 h2 M3 h3 M4 h4 nbrB (Memref.isWhole_whole _) ownB (Memref.isWhole_whole _) rsndB (Memref.isWhole_whole _) csndB (Memref.isWhole_whole _)
          dirB (Memref.isWhole_whole _) relB (Memref.isWhole_whole _) comB (Memref.isWhole_whole _) cc0_scratch7 cc0_scratch8 cc0_scratch9 cc0_scratch10 v2 hc v36
          (k0_pay12 (half 0 (ownM m c (t.val - 2)))) (k0_pay13 (got m 0 (t.val - 2) 0 c)))
        fun r => iprop(⌜r = aL m c (t.val - 2)⌝ ∗ permit 2 (t.val - 2 + 4) 0 c
          ∗ (∃ Y', ⌜∀ j, Y' ((Rect.unit (s := S1024x1024) ![0, 512 * (0 : Fin 2).val] S1024x512.size (inby 0)).emb j) = yL m c (t.val - 2) j⌝ ∗ OWN c M3 Y')
          ∗ POS 0 1 (t.val - 2 + 1) c ∗ CR 0 1 (t.val - 2 + 1) c ∗ OWES c O
          ∗ OWN c (rslot4 0 (t.val - 2) 1) (got m 0 (t.val - 2) 1 c) ∗ reached ER (rcell 0 (t.val - 2 + 4) 1 c) ((t.val - 2 + 4) / 4)) := by
  have hu : t.val - 2 < 8 := by omega
  rw [k0_part7_eq_skeleton]
  unfold k0_part7_skel
  simp only [Prog.lift, Prog.bind_op, Prog.bind_ret, Prog.pure_eq_ret]
  iintro ⟨#HC, Hr2, #Hre2, H3, Hp0, Hc0, HO⟩
  iapply (wp_loadCom c (t.val - 2) 0 (off24_at t ht)) $$ Hr2
  iintro Hr2
  iapply (wp_loadAW c) $$ H3
  iintro %Y0 H3
  iapply (wp_storeW c) $$ H3
  iintro ⟨%Y', %hY, H3⟩
  iapply (wp_recv m K c 0 (t.val - 2) 1 hu O (by rw [if_neg (by decide)]; exact hO.mono (by omega)) (dirV_off (off26_at t ht) _) (semD_off (off25_at t ht) _)) $$ [Hp0 Hc0 HO]
  · isplitr; · iexact HC
    isplitl [Hp0]; · iexact Hp0
    isplitl [Hc0] <;> iassumption
  iintro ⟨Hp0, Hc0, HO, Hr0, #Hre0, -⟩
  iapply (wp_done c)
  isplitr; · ipureintro; rfl
  isplitl [Hr2]
  · iapply (permit_of c 2 (t.val - 2) 0)
    isplitl [Hr2]; · iexact Hr2
    iexact Hre2
  isplitl [H3]
  · iexists Y'
    isplitr
    · ipureintro; exact hY.1
    · iexact H3
  isplitl [Hp0]; · iexact Hp0
  isplitl [Hc0]; · iexact Hc0
  isplitl [HO]; · iexact HO
  isplitl [Hr0]; · iexact Hr0
  iexact Hre0
end Parts

end Cert.Rs
-- ==== Proof.State.lean ====
/-
# What a device holds along the steps
-/
module

public import proofs.«01_k».proof.Proof.Parts

@[expose] public section

noncomputable section

namespace Cert.Rs

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (K : Dev nD × Fin 29 → ℕ)

/-! ## What a device holds before and after each stretch of the body at step `t` -/

/-- Departures of a stream when `τ` of them (at most eight) have been enqueued: the last one is under way until step nine. -/
def SND (k : Fin 3) (s : Fin 2) (τ : ℕ) (c : Dev nD) : sProp 𝕄 := if 1 ≤ τ ∧ τ ≤ 8 then sndF k s (τ - 1) c else sndI k s (min τ 8) c
theorem SND_wait {k : Fin 3} {s : Fin 2} {τ : ℕ} (h : 1 ≤ τ ∧ τ ≤ 8) (c : Dev nD) : SND (F := F) k s τ c = sndF k s (τ - 1) c := if_pos h
theorem SND_idle {k : Fin 3} {s : Fin 2} {τ : ℕ} (h : ¬(1 ≤ τ ∧ τ ≤ 8)) (c : Dev nD) : SND (F := F) k s τ c = sndI k s (min τ 8) c := if_neg h

/-- Slots from `lo` on are unused before step `t`; after its barrier, from `lo'` on; up to `hi0` (direct, combined) or `hi1` (relayed). -/
def lo' (t : ℕ) : ℕ := min t 7 + 1
def lo (t : ℕ) : ℕ := if t = 0 then 0 else lo' t
def hi0 (t : ℕ) : ℕ := max (t + 2) 4
def hi1 (t : ℕ) : ℕ := min (max (t + 2) 3) 11

def pj (n : ℕ) : Fin 2 := ⟨n % 2, Nat.mod_lt _ (by decide)⟩

def Snd01 (t : ℕ) (c : Dev nD) : sProp 𝕄 := iprop(SND 0 0 t c ∗ SND 1 0 t c ∗ SND 0 1 t c ∗ SND 1 1 t c)
def Idl01 (t : ℕ) (c : Dev nD) : sProp 𝕄 := iprop(sndI 0 0 (min t 8) c ∗ sndI 1 0 (min t 8) c ∗ sndI 0 1 (min t 8) c ∗ sndI 1 1 (min t 8) c)
def Snd2 (t : ℕ) (c : Dev nD) : sProp 𝕄 := iprop(SND 2 0 (t - 1) c ∗ SND 2 1 (t - 1) c)
def Idl2 (t : ℕ) (c : Dev nD) : sProp 𝕄 := iprop(sndI 2 0 (min (t - 1) 8) c ∗ sndI 2 1 (min (t - 1) 8) c)
def Tok01 (t : ℕ) (c : Dev nD) : sProp 𝕄 := iprop(TOK 0 0 (min t 8) c ∗ TOK 1 0 (min t 8) c ∗ TOK 0 1 (min t 8) c ∗ TOK 1 1 (min t 8) c)
/-- The relayed arrivals and the right to pass sums on. -/
def Rel (t : ℕ) (c : Dev nD) : sProp 𝕄 :=
  iprop((TOK 2 0 (min (t - 1) 8) c ∗ POS 1 0 (min (t - 1) 8) c ∗ CR 1 0 (min (t - 1) 8) c) ∗ (TOK 2 1 (min (t - 1) 8) c ∗ POS 1 1 (min (t - 1) 8) c ∗ CR 1 1 (min (t - 1) 8) c))
/-- The direct and combined arrivals. -/
def Arr (t : ℕ) (c : Dev nD) : sProp 𝕄 :=
  iprop((POS 0 0 (t - 2) c ∗ CR 0 0 (t - 2) c ∗ POS 2 0 (t - 2) c ∗ CR 2 0 (t - 2) c) ∗ (POS 0 1 (t - 2) c ∗ CR 0 1 (t - 2) c ∗ POS 2 1 (t - 2) c ∗ CR 2 1 (t - 2) c))
/-- Where the sums may go. -/
def Cpr (t : ℕ) (c : Dev nD) : sProp 𝕄 := if 1 ≤ t ∧ t ≤ 8 then iprop(permit 2 (t - 1) 0 (dst 2 0 c) ∗ permit 2 (t - 1) 1 (dst 2 1 c)) else iprop(emp)
/-- The two halves of the neighbours' partial products that are kept for the sums. -/
def Any01 (c : Dev nD) : sProp 𝕄 := iprop(anyAt c (nbrH 1 0) ∗ anyAt c (nbrH 0 1))
def Kept (t : ℕ) (c : Dev nD) : sProp 𝕄 :=
  if 1 ≤ t ∧ t ≤ 8 then iprop(OWN c (nbrH 1 0) (half 0 (nbrM m c (t - 1) 1)) ∗ OWN c (nbrH 0 1) (half 1 (nbrM m c (t - 1) 0))) else Any01 c
def Mine1 (a b : ℕ) (c : Dev nD) : sProp 𝕄 := iprop(MINE 1 0 a b c ∗ MINE 1 1 a b c)
def Mine02 (a b : ℕ) (c : Dev nD) : sProp 𝕄 := iprop((MINE 0 0 a b c ∗ MINE 2 0 a b c) ∗ (MINE 0 1 a b c ∗ MINE 2 1 a b c))
def Leave (u : ℕ) (c : Dev nD) : sProp 𝕄 := iprop(permits u 0 c ∗ permits u 1 c)
def PZ (t : ℕ) (c : Dev nD) : sProp 𝕄 := if t = 0 then Leave 0 c else iprop(emp)
def PM (t : ℕ) (c : Dev nD) : sProp 𝕄 := if t < 8 then Leave t c else iprop(emp)
/-- The plane of the device's own products that step `n` reads. -/
def Own (n : ℕ) (c : Dev nD) : sProp 𝕄 := if 2 ≤ n ∧ n < 10 then OWN c (ownP (pj n)) (ownM m c (n - 2)) else anyAt c (ownP (pj n))
def Bar0 (c : Dev nD) : sProp 𝕄 := iprop(atPos ER (bcell c) 0 ∅ 0 ∗ cred (tallyAt (bcell c) 0 2) ∗ dutyTok ER (bcell (nb 0 c)) 0 1 ∗ dutyTok ER (bcell (nb 1 c)) 0 0)
def Bar (t : ℕ) (c : Dev nD) : sProp 𝕄 := if t = 0 then Bar0 c else atPos ER (bcell c) 1 ∅ 0
def owedAt (c : Dev nD) (t : ℕ) : CellTallies nD τ sig ℕ := if t = 0 then owed₀ c else owed c t

/-- What a device holds before step `t`, besides its debt. -/
def Held (t : ℕ) (c : Dev nD) : sProp 𝕄 :=
  iprop(ctx m K ∗ Bar t c ∗ Mine1 (lo t) (hi1 t) c ∗ Mine02 (lo t) (hi0 t) c ∗ Snd01 t c ∗ Snd2 t c ∗ Tok01 t c ∗ Rel t c ∗ Arr t c ∗ Cpr t c ∗ Kept m t c ∗ Own m t c ∗ Own m (t + 1) c)

theorem lo_succ (t : ℕ) : lo (t + 1) = lo' (t + 1) := if_neg (Nat.succ_ne_zero t)
theorem owedAt_succ (c : Dev nD) (t : ℕ) : owedAt c (t + 1) = OD c (min (t + 1) 8) + OC c t := if_neg (Nat.succ_ne_zero t)
theorem OC_end (c : Dev nD) {a : ℕ} (h : 8 ≤ a) : OC c a = 0 := by
  unfold OC; rw [Finset.Ico_eq_empty (by omega), Finset.sum_empty]

/-! ## Stretches that do nothing at some steps -/

theorem permits_1 (u : ℕ) (c : Dev nD) : permits (F := F) u 1 (nb 0 c) = iprop(permit 0 u 1 c ∗ permit 1 u 0 c ∗ permit 2 u 0 c) := by
  unfold permits; rw [show nb 1 (nb 0 c) = c from nb_nb 0 c]; rfl
theorem permits_0 (u : ℕ) (c : Dev nD) : permits (F := F) u 0 (nb 1 c) = iprop(permit 0 u 0 c ∗ permit 1 u 1 c ∗ permit 2 u 1 c) := by
  unfold permits; rw [show nb 0 (nb 1 c) = c from nb_nb 1 c]; rfl

/-- One unused slot of each buffer goes to each neighbour. -/
theorem hand_out (c : Dev nD) {a b b' : ℕ} (h : a < b) (h' : a < b') :
    iprop(Mine1 (F := F) a b c ∗ Mine02 a b' c) ⊢ iprop(permits a 1 (nb 0 c) ∗ permits a 0 (nb 1 c) ∗ Mine1 (a + 1) b c ∗ Mine02 (a + 1) b' c) := by
  unfold Mine1 Mine02
  rw [permits_1, permits_0]
  iintro ⟨⟨A, B⟩, ⟨C, D⟩, E, H⟩
  ihave A := (MINE_pop c 1 0 h) $$ A; icases A with ⟨a, A⟩
  ihave B := (MINE_pop c 1 1 h) $$ B; icases B with ⟨b, B⟩
  ihave C := (MINE_pop c 0 0 h') $$ C; icases C with ⟨c, C⟩
  ihave D := (MINE_pop c 2 0 h') $$ D; icases D with ⟨d, D⟩
  ihave E := (MINE_pop c 0 1 h') $$ E; icases E with ⟨e, E⟩
  ihave H := (MINE_pop c 2 1 h') $$ H; icases H with ⟨h, H⟩
  isplitl [e a d]
  · isplitl [e]; · iexact e
    isplitl [a] <;> iassumption
  isplitl [c b h]
  · isplitl [c]; · iexact c
    isplitl [b] <;> iassumption
  isplitl [A B]
  · isplitl [A] <;> iassumption
  isplitl [C D]
  · isplitl [C] <;> iassumption
  · isplitl [E] <;> iassumption

section Steps
variable (t : ℕ) (c : Dev nD)

/-- Before the barrier exchange and after it. -/
def ZIn : sProp 𝕄 := iprop(ctx m K ∗ Bar t c ∗ OWES c (owedAt c t) ∗ Mine1 (lo t) (hi1 t) c ∗ Mine02 (lo t) (hi0 t) c)
def ZOut : sProp 𝕄 := iprop(atPos ER (bcell c) 1 ∅ 0 ∗ OWES c (owed c t) ∗ Mine1 (lo' t) (hi1 t) c ∗ Mine02 (lo' t) (hi0 t) c ∗ PZ t c)
theorem Z_idle (h : t ≠ 0) : ZIn m K t c ⊢ ZOut t c := by
  unfold ZIn ZOut Bar owedAt lo PZ
  rw [if_neg h, if_neg h, if_neg h, if_neg h]
  iintro ⟨-, A, B, C, D⟩
  isplitl [A]; · iexact A
  isplitl [B]; · iexact B
  isplitl [C]; · iexact C
  isplitl [D]; · iexact D
  iempintro
theorem Z_open (h : t = 0) : ZIn m K t c ⊢ iprop(ctx m K ∗ OWES c (owed c 0 + tallyAt (bcell (nb 1 c)) 0 1 + tallyAt (bcell (nb 0 c)) 0 1)
    ∗ (atPos ER (bcell c) 0 ∅ 0 ∗ cred (tallyAt (bcell c) 0 2) ∗ dutyTok ER (bcell (nb 0 c)) 0 1 ∗ dutyTok ER (bcell (nb 1 c)) 0 0)
    ∗ permits 0 1 (nb 0 c) ∗ permits 0 0 (nb 1 c) ∗ Mine1 (lo' t) (hi1 t) c ∗ Mine02 (lo' t) (hi0 t) c) := by
  subst h
  unfold ZIn Bar owedAt lo lo' Bar0 owed₀
  rw [if_pos rfl, if_pos rfl, if_pos rfl]
  iintro ⟨#HC, A, B, C, D⟩
  ihave H := (hand_out c (a := 0) (b := hi1 0) (b' := hi0 0) (by decide) (by decide)) $$ [C D]
  · isplitl [C] <;> iassumption
  icases H with ⟨E, G, H⟩
  isplitr; · iexact HC
  isplitl [B]; · iexact B
  isplitl [A]; · iexact A
  isplitl [E]; · iexact E
  isplitl [G]; · iexact G
  iexact H
theorem Z_close (h : t = 0) : iprop((OWES c (owed c 0) ∗ atPos ER (bcell c) 1 ∅ 0 ∗ permits 0 0 c ∗ permits 0 1 c) ∗ Mine1 (lo' t) (hi1 t) c ∗ Mine02 (lo' t) (hi0 t) c) ⊢ ZOut (F := F) t c := by
  subst h
  unfold ZOut PZ Leave
  rw [if_pos rfl]
  iintro ⟨⟨A, B, C⟩, D, E⟩
  isplitl [B]; · iexact B
  isplitl [A]; · iexact A
  isplitl [D]; · iexact D
  isplitl [E]; · iexact E
  iexact C

/-- Before and after the departures of the step before are awaited. -/
def AIn : sProp 𝕄 := iprop(ctx m K ∗ Snd01 t c ∗ OWES c (owed c t))
def AOut : sProp 𝕄 := iprop(Idl01 t c ∗ OWES c (owed c t))
theorem A_idle (h : ¬(1 ≤ t ∧ t ≤ 8)) : AIn m K t c ⊢ AOut t c := by
  unfold AIn AOut Snd01 Idl01
  rw [SND_idle h, SND_idle h, SND_idle h, SND_idle h]
  iintro ⟨-, A⟩; iexact A
def BIn : sProp 𝕄 := iprop(ctx m K ∗ Snd2 t c ∗ OWES c (owed c t))
def BOut : sProp 𝕄 := iprop(Idl2 t c ∗ OWES c (owed c t))
theorem B_idle (h : ¬(2 ≤ t ∧ t ≤ 9)) : BIn m K t c ⊢ BOut t c := by
  unfold BIn BOut Snd2 Idl2
  rw [SND_idle (by omega), SND_idle (by omega)]
  iintro ⟨-, A⟩; iexact A

/-- Before and after the relayed halves are added and passed on. -/
def CIn : sProp 𝕄 := iprop(ctx m K ∗ Rel t c ∗ OWES c (owed c t) ∗ Kept m t c ∗ Cpr t c ∗ Idl2 t c ∗ Mine1 (lo' t) (hi1 t) c ∗ PZ t c)
def COut : sProp 𝕄 := iprop(Rel (t + 1) c ∗ OWES c (OD c (min t 8) + OC c t) ∗ Any01 c ∗ Snd2 (t + 1) c ∗ Mine1 (lo' t) (hi1 (t + 1)) c ∗ PM t c)
theorem C_idle (h : ¬(1 ≤ t ∧ t ≤ 8)) (ht : t ≤ 9) : CIn m K t c ⊢ COut t c := by
  unfold CIn COut Kept Cpr Snd2 Idl2 PZ PM
  rw [if_neg h, if_neg h, Nat.add_sub_cancel, SND_idle h, SND_idle h]
  iintro ⟨-, A, B, C, D, E, G, H⟩
  obtain rfl | rfl : t = 0 ∨ t = 9 := by omega
  · isplitl [A]; · iexact A
    isplitl [B]; · iexact B
    isplitl [C]; · iexact C
    isplitl [E]; · iexact E
    isplitl [G]; · iexact G
    iexact H
  · isplitl [A]; · iexact A
    isplitl [B]
    · unfold owed; rw [OC_end c (by decide : 8 ≤ 9 - 1), OC_end c (by decide : 8 ≤ 9)]; iexact B
    isplitl [C]; · iexact C
    isplitl [E]; · iexact E
    isplitl [G]; · iexact G
    rw [if_neg (by decide)]; iempintro

/-- Before and after a column block's products are formed and sent. -/
def DIn : sProp 𝕄 := iprop(ctx m K ∗ Any01 c ∗ Idl01 t c ∗ Tok01 t c ∗ OWES c (OD c (min t 8) + OC c t) ∗ Mine1 (lo' t) (hi1 (t + 1)) c ∗ Mine02 (lo' t) (hi0 t) c ∗ PM t c)
def DOut : sProp 𝕄 := iprop(Kept m (t + 1) c ∗ Cpr (t + 1) c ∗ Snd01 (t + 1) c ∗ Tok01 (t + 1) c ∗ OWES c (OD c (min (t + 1) 8) + OC c t)
  ∗ Mine1 (lo' (t + 1)) (hi1 (t + 1)) c ∗ Mine02 (lo' (t + 1)) (hi0 t) c)
theorem D_idle (h : ¬t ≤ 7) : DIn m K t c ⊢ DOut m t c := by
  have e : min (t + 1) 8 = min t 8 := by omega
  have e' : lo' (t + 1) = lo' t := by unfold lo'; omega
  unfold DIn DOut Kept Cpr PM Snd01 Idl01 Tok01
  rw [if_neg (by omega), if_neg (by omega), if_neg (by omega), SND_idle (by omega), SND_idle (by omega), SND_idle (by omega), SND_idle (by omega), e, e']
  iintro ⟨-, A, B, C, D, E, G, -⟩
  isplitl [A]; · iexact A
  isplitr; · iempintro
  isplitl [B]; · iexact B
  isplitl [C]; · iexact C
  isplitl [D]; · iexact D
  isplitl [E]; · iexact E
  iexact G

/-- Before and after the result block is formed. -/
def EIn (M3 : Memref sig .tc .vmem S1024x1024 .f32) (M4 : Memref sig .tc .vmem S1x128 .f32) (Y3 : S1024x1024.Idx → Elt F .f32) (Y4 : S1x128.Idx → Elt F .f32) : sProp 𝕄 :=
  iprop(ctx m K ∗ Arr t c ∗ OWES c (OD c (min (t + 1) 8) + OC c t) ∗ Own m t c ∗ Mine02 (lo' (t + 1)) (hi0 t) c ∗ OWN c M3 Y3 ∗ OWN c M4 Y4)
def EOut (M3 : Memref sig .tc .vmem S1024x1024 .f32) (M4 : Memref sig .tc .vmem S1x128 .f32) (Y3 : S1024x1024.Idx → Elt F .f32) (Y4 : S1x128.Idx → Elt F .f32) : sProp 𝕄 :=
  iprop(Arr (t + 1) c ∗ OWES c (OD c (min (t + 1) 8) + OC c t) ∗ Own m t c ∗ Mine02 (lo' (t + 1)) (hi0 (t + 1)) c
    ∗ OWN c M3 (if 2 ≤ t then yM m c (t - 2) else Y3) ∗ OWN c M4 (if 2 ≤ t then aM m c (t - 2) else Y4))
theorem E_idle (h : ¬2 ≤ t) (M3 : Memref sig .tc .vmem S1024x1024 .f32) (M4 : Memref sig .tc .vmem S1x128 .f32) (Y3 Y4) : EIn m K t c M3 M4 Y3 Y4 ⊢ EOut m t c M3 M4 Y3 Y4 := by
  unfold EIn EOut Arr
  rw [if_neg h, if_neg h, show t + 1 - 2 = t - 2 by omega, show hi0 (t + 1) = hi0 t by unfold hi0; omega]
  iintro ⟨-, A⟩; iexact A

theorem pj_add (n : ℕ) : pj (n + 2) = pj n := Fin.ext (by show (n + 2) % 2 = n % 2; omega)
theorem F_idle (h : ¬t ≤ 7) (ht : t ≤ 9) : Own m t c ⊢ Own m (t + 2) c := by
  unfold Own
  rw [if_pos (by omega), if_neg (by omega), pj_add]
  exact any_intro c
theorem F_open : Own m t c ⊢ anyAt c (ownP (pj t)) := by
  unfold Own
  by_cases h : 2 ≤ t ∧ t < 10
  · rw [if_pos h]; exact any_intro c
  · rw [if_neg h]
theorem F_close (h : t ≤ 7) : OWN c (ownP (pj t)) (ownM m c t) ⊢ Own m (t + 2) c := by
  unfold Own
  rw [if_pos (by omega), pj_add, Nat.add_sub_cancel]
end Steps

/-- The result block is its two halves. -/
theorem yM_of (c : Dev nD) (u : ℕ) (Y Y' : S1024x1024.Idx → Elt F .f32)
    (h : ∀ j, Y ((Rect.unit (s := S1024x1024) ![0, 512 * (0 : Fin 2).val] S1024x512.size (inby 0)).emb j) = yL m c u j)
    (h' : ∀ j, Y' ((Rect.unit (s := S1024x1024) ![0, 512 * (1 : Fin 2).val] S1024x512.size (inby 1)).emb j) = yR m c u j)
    (h'' : ∀ i, i ∉ (Rect.unit (s := S1024x1024) ![0, 512 * (1 : Fin 2).val] S1024x512.size (inby 1)).set → Y' i = Y i) : Y' = yM m c u := by
  funext i
  unfold yM
  by_cases hi : (i 1).val < 512
  · rw [dif_pos hi, h'' i, ← h]
    · congr 1
      funext a
      refine Fin.ext ?_
      fin_cases a
      · show (i 0).val = 0 + 1 * (i 0).val; omega
      · show (i 1).val = 512 * 0 + 1 * (i 1).val; omega
    · rw [Rect.mem_set_unit]
      intro H
      have := (H 1).1
      change 512 * 1 ≤ (i 1).val at this
      omega
  · rw [dif_neg hi, ← h']
    congr 1
    funext a
    refine Fin.ext ?_
    fin_cases a
    · show (i 0).val = 0 + 1 * (i 0).val; omega
    · show (i 1).val = 512 * 1 + 1 * ((i 1).val - 512); omega

end Cert.Rs
-- ==== Proof.Sends.lean ====
/-
# The body up to the arrivals
-/
module

public import proofs.«01_k».proof.Proof.State

@[expose] public section

noncomputable section

namespace Cert.Rs

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (K : Dev nD × Fin 29 → ℕ)

/-- A conditional stretch of a program: what either branch starts from and leaves, the rest of the program being the same after both. -/
theorem wp_condJ {α : Type} (c : Dev nD) (P R : sProp 𝕄) {Q : α → sProp 𝕄} {p : Prop} [Decidable p] {A : p → Prog (TpuEff nD τ sig (Elt F) Λ₀ .tc) α}
    {k : Prog (TpuEff nD τ sig (Elt F) Λ₀ .tc) α} (hA : ∀ h, P ⊢ iprop((R -∗ WP c k Q) -∗ WP c (A h) Q)) (hB : ¬p → P ⊢ R) :
    P ⊢ iprop((R -∗ WP c k Q) -∗ WP c (dite p A fun _ => k) Q) := by
  by_cases h : p
  · rw [dif_pos h]; exact hA h
  · rw [dif_neg h]; iintro H Hk; iapply Hk; iapply (hB h) $$ H

/-- A store over everything one owns. -/
theorem wp_storeAll {α : Type} (c : Dev nD) {Q : α → sProp 𝕄} {s : Shape} {e : EltTy} {v : Memref sig .tc .vmem s e} {off : Fin s.rank → ℕ} (h : ∀ a, off a = 0) {inb} {w : s.Idx → Elt F e} {hx} {hm}
    {k : PUnit → Prog (TpuEff nD τ sig (Elt F) Λ₀ .tc) α} {X : s.Idx → Elt F e} :
    OWN c v X ⊢ iprop((OWN c v w -∗ WP c (k ⟨⟩) Q) -∗ WP c (.op (.store v (Rect.unit (s := s) off s.size inb) w Finset.univ hx hm) k) Q) := by
  iintro H Hk
  iapply (wp_storeW c) $$ H
  iintro ⟨%X', %hX, H⟩
  have e : X' = w := by
    rw [← all_at h inb X']; funext j; exact hX.1 j
  rw [e]
  iapply Hk $$ H

section Part8
variable (c : Dev nD) (t : Fin cfg0.N) (M1 : Memref sig .tc .vmem S4096x1024 .bf16) (h1 : M1.IsWhole) (M2 : Memref sig .tc .vmem S1024x1024 .bf16) (h2 : M2.IsWhole)
  (M3 : Memref sig .tc .vmem S1024x1024 .f32) (h3 : M3.IsWhole) (M4 : Memref sig .tc .vmem S1x128 .f32) (h4 : M4.IsWhole)

set_option maxHeartbeats 4000000 in
/-- The body up to the arrivals: the barrier, the departures of the step before, the sums passed on, and the step's own products sent. -/
theorem part8_spec (Y2) (hY2 : t.val ≤ 7 → Y2 = wblk m c t.val) :
    iprop(ZIn m K t.val c ∗ Snd01 t.val c ∗ Snd2 t.val c ∗ Rel t.val c ∗ Kept m t.val c ∗ Cpr t.val c ∗ Tok01 t.val c ∗ OWN c M1 (xblk m c) ∗ OWN c M2 Y2)
      ⊢ WP c (k0_part8 (F := F) (G t) M1 h1 M2 h2 M3 h3 M4 h4 nbrB (Memref.isWhole_whole _) ownB (Memref.isWhole_whole _) rsndB (Memref.isWhole_whole _) csndB (Memref.isWhole_whole _)
          dirB (Memref.isWhole_whole _) relB (Memref.isWhole_whole _) comB (Memref.isWhole_whole _) cc0_scratch7 cc0_scratch8 cc0_scratch9 cc0_scratch10)
        fun r => iprop(⌜r.2.1 = c⌝ ∗ atPos ER (bcell c) 1 ∅ 0 ∗ Rel (t.val + 1) c ∗ Snd2 (t.val + 1) c ∗ DOut m t.val c ∗ OWN c M1 (xblk m c) ∗ OWN c M2 Y2) := by
  have ht9 : t.val ≤ 9 := Nat.le_of_lt_succ (lt_of_lt_of_eq t.isLt N_0)
  rw [k0_part8_eq_skeleton]
  unfold k0_part8_skel
  simp only [semSignalWord, semWaitWord, Prog.lift, Prog.bind_op, Prog.bind_ret, Prog.pure_eq_ret, wp_deviceId]
  iintro ⟨HZ, HA, HB, HR, HK, HP, HT, H1, H2⟩
  ihave HC := (show ZIn m K t.val c ⊢ iprop(ctx m K ∗ ZIn m K t.val c) from by
    unfold ZIn; iintro ⟨#HC, H⟩; isplitr; · iexact HC
    isplitr; · iexact HC
    iexact H) $$ HZ
  icases HC with ⟨#HC, HZ⟩
  -- the barrier
  iapply (wp_condJ c (ZIn m K t.val c) (ZOut t.val c) ?hA ?hB) $$ [HZ]
  case hA =>
    intro h
    have h0 := (cond1_iff t).mp h
    iintro HZ Hk
    ihave HZ := (Z_open m K t.val c h0) $$ HZ
    icases HZ with ⟨#HC, HO, HB, Hp, Hq, HM⟩
    iapply (wp_barrier m K c (dev1_nb c _) (dev2_nb c _) (owed c 0) (above_owed c 0)) $$ [HO HB Hp Hq]
    · isplitr; · iexact HC
      isplitl [HO]; · iexact HO
      isplitl [HB]; · iexact HB
      isplitl [Hp] <;> iassumption
    iintro H
    iapply Hk
    iapply (Z_close t.val c h0)
    isplitl [H] <;> iassumption
  case hB => intro h; exact Z_idle m K t.val c (fun h0 => h ((cond1_iff t).mpr h0))
  · iexact HZ
  iintro HZ
  unfold ZOut
  icases HZ with ⟨Hbar, HO, HM1, HM02, HPZ⟩
  -- the first departures
  iapply (wp_condJ c (AIn m K t.val c) (AOut t.val c) ?hA ?hB) $$ [HA HO]
  case hA =>
    intro h
    have ht := (sent1_iff t).mp h
    have e : min t.val 8 = t.val - 1 + 1 := by omega
    unfold AIn AOut Snd01 Idl01
    rw [SND_wait ht, SND_wait ht, SND_wait ht, SND_wait ht, e]
    iintro ⟨#HC, ⟨A, B, C, D⟩, HO⟩ Hk
    iapply (wp_cut c (part1_spec m K c t M1 h1 M2 h2 M3 h3 M4 h4 (t.val - 1) (by omega) (owed c t.val) ((above_owed c t.val).mono (by decide)))) $$ [A B C HO]
    · isplitr; · iexact HC
      isplitl [A]; · iexact A
      isplitl [B]; · iexact B
      isplitl [C] <;> iassumption
    iintro %_ ⟨A, B, C, HO⟩
    iapply (wp_sent m K c 1 (t.val - 1) 1 (by omega) (owed c t.val) ((above_owed c t.val).mono (by decide)) (src1_off 1 rfl _) (semS_off 1 1 rfl _)) $$ [D HO]
    · isplitr; · iexact HC
      isplitl [D] <;> iassumption
    iintro ⟨D, HO⟩
    iapply Hk
    isplitr [HO]
    · isplitl [A]; · iexact A
      isplitl [B]; · iexact B
      isplitl [C] <;> iassumption
    iexact HO
  case hB => intro h; exact A_idle m K t.val c (fun h0 => h ((sent1_iff t).mpr h0))
  · unfold AIn
    isplitr; · iexact HC
    isplitl [HA] <;> iassumption
  iintro HA
  unfold AOut
  icases HA with ⟨HA, HO⟩
  -- the second
  iapply (wp_condJ c (BIn m K t.val c) (BOut t.val c) ?hA ?hB) $$ [HB HO]
  case hA =>
    intro h
    have ht := (sent2_iff t).mp h
    have e : min (t.val - 1) 8 = t.val - 1 - 1 + 1 := by omega
    unfold BIn BOut Snd2 Idl2
    rw [SND_wait (by omega), SND_wait (by omega), e]
    iintro ⟨#HC, ⟨A, B⟩, HO⟩ Hk
    iapply (wp_sent m K c 2 (t.val - 1 - 1) 0 (by omega) (owed c t.val) ((above_owed c t.val).mono (by decide)) (src2_off 0 rfl _) (semS_off 2 0 rfl _)) $$ [A HO]
    · isplitr; · iexact HC
      isplitl [A] <;> iassumption
    iintro ⟨A, HO⟩
    iapply (wp_sent m K c 2 (t.val - 1 - 1) 1 (by omega) (owed c t.val) ((above_owed c t.val).mono (by decide)) (src2_off 1 rfl _) (semS_off 2 1 rfl _)) $$ [B HO]
    · isplitr; · iexact HC
      isplitl [B] <;> iassumption
    iintro ⟨B, HO⟩
    iapply Hk
    isplitr [HO]
    · isplitl [A] <;> iassumption
    iexact HO
  case hB => intro h; exact B_idle m K t.val c (fun h0 => h ((sent2_iff t).mpr h0))
  · unfold BIn
    isplitr; · iexact HC
    isplitl [HB] <;> iassumption
  iintro HB
  unfold BOut
  icases HB with ⟨HB, HO⟩
  -- the sums
  iapply (wp_condJ c (CIn m K t.val c) (COut t.val c) ?hA ?hB) $$ [HR HO HK HP HB HM1 HPZ]
  case hA =>
    intro h
    have ht := (cond4_iff t).mp h
    have hu : t.val - 1 < 8 := by omega
    have e : min t.val 8 = t.val := by omega
    have e1 : min (t.val - 1) 8 = t.val - 1 := by omega
    have e2 : t.val - 1 + 1 = t.val := by omega
    have eO : owed c t.val = OD c t.val + OC c t.val + due c 2 (t.val - 1) 1 + due c 2 (t.val - 1) 0 := by
      unfold owed; rw [OC_succ c hu, e, e2, ← add_assoc, ← add_assoc]
    have hOa : Above (2 * (t.val - 1) + 2) (OD c t.val + OC c t.val + due c 2 (t.val - 1) 1) :=
      ((above_OD c (by omega)).add (above_OC c (by omega))).add (above_due c 2 _ 1 hu (by rw [if_pos rfl]; omega))
    have hOb : Above (2 * (t.val - 1) + 2) (owed c t.val) := by
      rw [eO]; exact hOa.add (above_due c 2 _ 0 hu (by rw [if_pos rfl]; omega))
    have ee : hi1 t.val = t.val - 1 + 3 := by unfold hi1; omega
    have ee' : hi1 (t.val + 1) = t.val - 1 + 3 + 1 := by unfold hi1; omega
    have eM : lo' t.val ≤ t.val - 1 + 3 := by unfold lo'; omega
    have hE : iprop(EXTRA (F := F) 1 (t.val - 1) 0 c ∗ EXTRA 1 (t.val - 1) 1 c) ⊢ PM t.val c := by
      unfold EXTRA PM Leave
      rw [e2]
      by_cases h8 : t.val < 8
      · rw [if_pos ⟨rfl, h8⟩, if_pos ⟨rfl, h8⟩, if_pos h8]
      · rw [if_neg (fun h => h8 h.2), if_neg (fun h => h8 h.2), if_neg h8]
        exact sep_elim_left
    unfold CIn COut Rel Kept Cpr Idl2 Snd2 Mine1 PZ Any01 sndI
    rw [if_pos ht, if_pos ht, if_neg (by omega), ee, ee', Nat.add_sub_cancel, SND_wait ht, SND_wait ht, e, e1]
    iintro ⟨#HC, ⟨⟨Ta, Pa, Ca⟩, ⟨Tb, Pb, Cb⟩⟩, HO, ⟨Na, Nb⟩, ⟨Ra, Rb⟩, ⟨⟨Sa, Za⟩, ⟨Sb, Zb⟩⟩, ⟨Ma, Mb⟩, -⟩ Hk
    iapply (wp_cut c (part2_spec m K c t M1 h1 M2 h2 M3 h3 M4 h4 ht _ _ _ h (owed c t.val) hOb)) $$ [Pa Ca HO Na Za]
    · isplitr; · iexact HC
      isplitl [Pa]; · iexact Pa
      isplitl [Ca]; · iexact Ca
      isplitl [HO]; · iexact HO
      isplitl [Na] <;> iassumption
    iintro %_ ⟨Pa, Ca, HO, Na, Za, Ya, Ea⟩
    rw [eO]
    iapply (wp_cut c (part3_spec m K c t M1 h1 M2 h2 M3 h3 M4 h4 ht _ _ h (OD c t.val + OC c t.val + due c 2 (t.val - 1) 1) hOa)) $$ [Za Ra Sa Ta HO Pb Cb Nb Zb]
    · isplitr; · iexact HC
      isplitl [Za]; · iexact Za
      isplitl [Ra]; · iexact Ra
      isplitl [Sa]; · iexact Sa
      isplitl [Ta]; · iexact Ta
      isplitl [HO]; · iexact HO
      isplitl [Pb]; · iexact Pb
      isplitl [Cb]; · iexact Cb
      isplitl [Nb] <;> iassumption
    iintro %_ ⟨Fa, Ta, HO, Pb, Cb, Nb, Zb, Yb, Eb⟩
    iapply (wp_send m K c 2 (t.val - 1) 1 hu (OD c t.val + OC c t.val) (dev4_dst c _) (src2_off 1 rfl _) (comV_off (off10_at t ht.1) _) (semS_off 2 1 rfl _) (semC_off (off9_at t ht.1) _) rfl) $$ [Zb Rb Sb Tb HO]
    · isplitr; · iexact HC
      isplitl [Zb]; · iexact Zb
      isplitl [Rb]; · iexact Rb
      isplitr; · rw [extra_emp 2 (by decide)]; iempintro
      isplitl [Sb]; · iexact Sb
      isplitl [Tb] <;> iassumption
    iintro ⟨Fb, Tb, HO⟩
    iapply Hk
    rw [e2]
    isplitl [Ta Pa Ca Tb Pb Cb]
    · isplitl [Ta Pa Ca]
      · isplitl [Ta]; · iexact Ta
        isplitl [Pa] <;> iassumption
      · isplitl [Tb]; · iexact Tb
        isplitl [Pb] <;> iassumption
    isplitl [HO]; · iexact HO
    isplitl [Na Nb]; · isplitl [Na] <;> iassumption
    isplitl [Fa Fb]; · isplitl [Fa] <;> iassumption
    isplitl [Ma Mb Ya Yb]
    · isplitl [Ma Ya]
      · iapply (MINE_push c 1 0 eM); isplitl [Ma] <;> iassumption
      · iapply (MINE_push c 1 1 eM); isplitl [Mb] <;> iassumption
    iapply hE
    isplitl [Ea] <;> iassumption
  case hB => intro h; exact C_idle m K t.val c (fun h0 => h ((cond4_iff t).mpr h0)) ht9
  · unfold CIn
    isplitr; · iexact HC
    isplitl [HR]; · iexact HR
    isplitl [HO]; · iexact HO
    isplitl [HK]; · iexact HK
    isplitl [HP]; · iexact HP
    isplitl [HB]; · iexact HB
    isplitl [HM1] <;> iassumption
  iintro HC'
  unfold COut
  icases HC' with ⟨HR, HO, HN, HB, HM1, HPM⟩
  -- the products
  iapply (wp_condJ c iprop(DIn m K t.val c ∗ OWN c M1 (xblk m c) ∗ OWN c M2 Y2) iprop(DOut m t.val c ∗ OWN c M1 (xblk m c) ∗ OWN c M2 Y2) ?hA ?hB) $$ [HN HA HT HO HM1 HM02 HPM H1 H2]
  case hA =>
    intro h
    have ht := (cond5_iff t).mp h
    have hu : t.val < 8 := by omega
    have e : min t.val 8 = t.val := by omega
    have e' : min (t.val + 1) 8 = t.val + 1 := by omega
    have eO : OD c t.val + OC c t.val = OD c (t.val + 1) + OC c t.val + due c 1 t.val 1 + due c 0 t.val 1 + due c 1 t.val 0 + due c 0 t.val 0 := by
      rw [OD_succ c hu, add_right_comm, ← add_assoc, ← add_assoc, ← add_assoc]
    have hY := hY2 ht
    subst hY
    have hX : iprop(Mine1 (lo' t.val) (hi1 (t.val + 1)) c ∗ Mine02 (lo' t.val) (hi0 t.val) c) ⊢
        iprop(EXTRA (F := F) 1 t.val 0 (dst 1 0 c) ∗ EXTRA 1 t.val 1 (dst 1 1 c) ∗ Mine1 (lo' (t.val + 1)) (hi1 (t.val + 1)) c ∗ Mine02 (lo' (t.val + 1)) (hi0 t.val) c) := by
      unfold EXTRA
      by_cases h7 : t.val + 1 < 8
      · rw [if_pos ⟨rfl, h7⟩, if_pos ⟨rfl, h7⟩, show dst 1 0 c = nb 1 c from rfl, show dst 1 1 c = nb 0 c from rfl,
          show lo' t.val = t.val + 1 by unfold lo'; omega, show lo' (t.val + 1) = t.val + 1 + 1 by unfold lo'; omega]
        iintro H
        ihave H := (hand_out c (a := t.val + 1) (b := hi1 (t.val + 1)) (b' := hi0 t.val) (by unfold hi1; omega) (by unfold hi0; omega)) $$ H
        icases H with ⟨A, B, C⟩
        isplitl [B]; · iexact B
        isplitl [A]; · iexact A
        iexact C
      · rw [if_neg (fun h => h7 h.2), if_neg (fun h => h7 h.2), show lo' (t.val + 1) = lo' t.val by unfold lo'; omega]
        iintro H
        isplitr; · iempintro
        isplitr; · iempintro
        iexact H
    unfold DIn DOut Idl01 Tok01 Snd01 Kept Cpr PM sndI Any01
    rw [if_pos hu, if_pos (by omega), if_pos (by omega), Nat.add_sub_cancel, SND_wait (by omega), SND_wait (by omega), SND_wait (by omega), SND_wait (by omega), Nat.add_sub_cancel, e, e', eO]
    unfold Leave permits
    iintro ⟨⟨#HC, ⟨Na, Nb⟩, ⟨⟨Sa, Za⟩, ⟨Sb, Zb⟩, ⟨Sc, Zc⟩, ⟨Sd, Zd⟩⟩, ⟨Ta, Tb, Tc, Td⟩, HO, HM1, HM2, ⟨Ra, Rd, Rf⟩, ⟨Rc, Rb, Re⟩⟩, H1, H2⟩ Hk
    ihave HM := hX $$ [HM1 HM2]
    · isplitl [HM1] <;> iassumption
    icases HM with ⟨Ea, Eb, HM⟩
    iapply (wp_cut c (part4_spec m c t M1 h1 M2 h2 M3 h3 M4 h4 _ _ _ _ h)) $$ [H1 H2 Za Nb Na Zc]
    · isplitl [H2]; · iexact H2
      isplitl [H1]; · iexact H1
      isplitl [Za]; · iexact Za
      isplitl [Nb]; · iexact Nb
      isplitl [Na] <;> iassumption
    iintro %r ⟨%hr, H2, H1, Za, Nb, Na, Zc⟩
    obtain ⟨r1, r2⟩ := r
    subst hr
    iapply (wp_cut c (part5_spec m K c t M1 h1 M2 h2 M3 h3 M4 h4 ht _ _ h (OD c (t.val + 1) + OC c t.val + due c 1 t.val 1 + due c 0 t.val 1))) $$ [H1 Za Ra Sa Ta HO Zb Rb Ea Sb Tb]
    · isplitr; · iexact HC
      isplitl [H1]; · iexact H1
      isplitl [Za]; · iexact Za
      isplitl [Ra]; · iexact Ra
      isplitl [Sa]; · iexact Sa
      isplitl [Ta]; · iexact Ta
      isplitl [HO]; · iexact HO
      isplitl [Zb]; · iexact Zb
      isplitl [Rb]; · iexact Rb
      isplitl [Ea]; · iexact Ea
      isplitl [Sb] <;> iassumption
    iintro %_ ⟨H1, Fa, Ta, HO, Fb, Tb⟩
    iapply (wp_send m K c 0 t.val 1 hu (OD c (t.val + 1) + OC c t.val + due c 1 t.val 1) (dev7_dst c _) (src0_off 1 rfl _) (dirV_off (off18_at t) _) (semS_off 0 1 rfl _) (semD_off (off17_at t) _) rfl) $$ [Zc Rc Sc Tc HO]
    · isplitr; · iexact HC
      isplitl [Zc]; · iexact Zc
      isplitl [Rc]; · iexact Rc
      isplitr; · rw [extra_emp 0 (by decide)]; iempintro
      isplitl [Sc]; · iexact Sc
      isplitl [Tc] <;> iassumption
    iintro ⟨Fc, Tc, HO⟩
    iapply (wp_loadRows m c (opp c) (off11_opp c)) $$ H1
    iintro H1
    iapply (wp_store1 c 1 rfl) $$ Zd
    iintro Zd
    rw [val1_1]
    iapply (wp_send m K c 1 t.val 1 hu (OD c (t.val + 1) + OC c t.val) (dev8_dst c _) (src1_off 1 rfl _) (relV_off (off20_at t) _) (semS_off 1 1 rfl _) (semR_off (off19_at t) _) rfl) $$ [Zd Rd Eb Sd Td HO]
    · isplitr; · iexact HC
      isplitl [Zd]; · iexact Zd
      isplitl [Rd]; · iexact Rd
      isplitl [Eb]; · iexact Eb
      isplitl [Sd]; · iexact Sd
      isplitl [Td] <;> iassumption
    iintro ⟨Fd, Td, HO⟩
    iapply Hk
    isplitr [H1 H2]
    · isplitl [Na Nb]; · isplitl [Na] <;> iassumption
      isplitl [Re Rf]
      · isplitl [Re]; · iexact Re
        iexact Rf
      isplitl [Fa Fb Fc Fd]
      · isplitl [Fa]; · iexact Fa
        isplitl [Fb]; · iexact Fb
        isplitl [Fc] <;> iassumption
      isplitl [Ta Tb Tc Td]
      · isplitl [Ta]; · iexact Ta
        isplitl [Tb]; · iexact Tb
        isplitl [Tc] <;> iassumption
      isplitl [HO]; · iexact HO
      iexact HM
    · isplitl [H1] <;> iassumption
  case hB =>
    intro h
    iintro ⟨H, H'⟩
    isplitl [H]
    · iapply (D_idle m K t.val c (fun h0 => h ((cond5_iff t).mpr h0))) $$ H
    · iexact H'
  · unfold DIn
    isplitr [H1 H2]
    · isplitr; · iexact HC
      isplitl [HN]; · iexact HN
      isplitl [HA]; · iexact HA
      isplitl [HT]; · iexact HT
      isplitl [HO]; · iexact HO
      isplitl [HM1]; · iexact HM1
      isplitl [HM02] <;> iassumption
    · isplitl [H1] <;> iassumption
  iintro ⟨HD, H1, H2⟩
  iapply (wp_done c)
  isplitr; · ipureintro; rfl
  isplitl [Hbar]; · iexact Hbar
  isplitl [HR]; · iexact HR
  isplitl [HB]; · iexact HB
  isplitl [HD]; · iexact HD
  isplitl [H1] <;> iassumption
end Part8

end Cert.Rs
-- ==== Proof.Body.lean ====
/-
# The whole body at a step
-/
module

public import proofs.«01_k».proof.Proof.Sends

@[expose] public section

noncomputable section

namespace Cert.Rs

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (K : Dev nD × Fin 29 → ℕ)
variable (c : Dev nD) (t : Fin cfg0.N) (M1 : Memref sig .tc .vmem S4096x1024 .bf16) (h1 : M1.IsWhole) (M2 : Memref sig .tc .vmem S1024x1024 .bf16) (h2 : M2.IsWhole)
  (M3 : Memref sig .tc .vmem S1024x1024 .f32) (h3 : M3.IsWhole) (M4 : Memref sig .tc .vmem S1x128 .f32) (h4 : M4.IsWhole)

/-- A buffer in its place when step two has formed the first maximum: -/
def aMid (t : ℕ) (Y4 : S1x128.Idx → Elt F .f32) : S1x128.Idx → Elt F .f32 := if t = 2 then aM m c 0 else Y4

theorem ownM_eq (u : ℕ) : k0_pay5 (xrow m c c) (wblk m c u) = ownM m c u := rfl

set_option maxHeartbeats 4000000 in
/-- The whole body at step `t`: from what the device holds before the step to what it holds before the next. -/
theorem body_spec (Y2) (hY2 : t.val ≤ 7 → Y2 = wblk m c t.val) (Y3) (Y4) (hY4 : 3 ≤ t.val → Y4 = aM m c (t.val - 3)) :
    iprop(Held m K t.val c ∗ OWES c (owedAt c t.val) ∗ OWN c M1 (xblk m c) ∗ OWN c M2 Y2 ∗ OWN c M3 Y3 ∗ OWN c M4 Y4)
      ⊢ WP c (cc0_body (F := F) (G t) M1 h1 M2 h2 M3 h3 M4 h4 nbrB (Memref.isWhole_whole _) ownB (Memref.isWhole_whole _) rsndB (Memref.isWhole_whole _) csndB (Memref.isWhole_whole _)
          dirB (Memref.isWhole_whole _) relB (Memref.isWhole_whole _) comB (Memref.isWhole_whole _) cc0_scratch7 cc0_scratch8 cc0_scratch9 cc0_scratch10)
        fun _ => iprop(Held m K (t.val + 1) c ∗ OWES c (owedAt c (t.val + 1)) ∗ OWN c M1 (xblk m c) ∗ OWN c M2 Y2
          ∗ OWN c M3 (if 2 ≤ t.val then yM m c (t.val - 2) else Y3) ∗ OWN c M4 (if 2 ≤ t.val then aM m c (t.val - 2) else Y4)) := by
  have ht9 : t.val ≤ 9 := Nat.le_of_lt_succ (lt_of_lt_of_eq t.isLt N_0)
  rw [cc0_body_eq_skeleton]
  unfold cc0_body_skel
  simp only [Prog.lift, Prog.bind_op, Prog.bind_ret, Prog.pure_eq_ret]
  rw [owedAt_succ]
  unfold Held
  iintro ⟨⟨#HC, HB, HM1, HM02, HA, HB2, HT, HR, HV, HP, HK, HO0, HO1⟩, HO, H1, H2, H3, H4⟩
  iapply (wp_cut c (part8_spec m K c t M1 h1 M2 h2 M3 h3 M4 h4 Y2 hY2)) $$ [HB HO HM1 HM02 HA HB2 HR HK HP HT H1 H2]
  · isplitl [HB HO HM1 HM02]
    · unfold ZIn
      isplitr; · iexact HC
      isplitl [HB]; · iexact HB
      isplitl [HO]; · iexact HO
      isplitl [HM1] <;> iassumption
    isplitl [HA]; · iexact HA
    isplitl [HB2]; · iexact HB2
    isplitl [HR]; · iexact HR
    isplitl [HK]; · iexact HK
    isplitl [HP]; · iexact HP
    isplitl [HT]; · iexact HT
    isplitl [H1] <;> iassumption
  iintro %r ⟨%hr, Hbar, HR, HB2, HD, H1, H2⟩
  obtain ⟨r0, d0, r2, r3, r4⟩ := r
  change d0 = c at hr
  subst hr
  unfold DOut
  icases HD with ⟨HK, HP, HA, HT, HO, HM1, HM02⟩
  iapply (wp_condJ d0 (EIn m K t.val d0 M3 M4 Y3 Y4) (EOut m t.val d0 M3 M4 Y3 Y4) ?hA ?hB) $$ [HV HO HO0 HM02 H3 H4]
  case hA =>
    intro h
    have ht := (cond6_iff t).mp h
    have hu : t.val - 2 < 8 := by omega
    have eT : t.val - 2 + 1 = t.val + 1 - 2 := by omega
    have e4 : t.val - 2 + 4 = hi0 t.val := by unfold hi0; omega
    have e5 : hi0 (t.val + 1) = hi0 t.val + 1 := by unfold hi0; omega
    have eM : lo' (t.val + 1) ≤ hi0 t.val := by unfold lo' hi0; omega
    have eo : Own m t.val d0 = OWN d0 (ownP (pj t.val)) (ownM m d0 (t.val - 2)) := if_pos ⟨ht, by omega⟩
    have ej : (pj t.val).val = (t.val - 2) % 2 := by show t.val % 2 = _; omega
    have hO : Above (2 * (t.val - 2) + 3) (OD d0 (min (t.val + 1) 8) + OC d0 t.val) := by
      by_cases h8 : t.val ≤ 7
      · exact (above_OD d0 (by omega)).add (above_OC d0 (by omega))
      · rw [OC_end d0 (by omega), show min (t.val + 1) 8 = 8 by omega, show OD d0 8 = 0 from rfl]
        exact (Above.zero _).add (Above.zero _)
    unfold EIn EOut Arr Mine02
    rw [eo, e5, if_pos ht, if_pos ht, ← eT]
    iintro ⟨#HC, ⟨⟨Pa, Ca, Pb, Cb⟩, ⟨Pc, Cc, Pd, Cd⟩⟩, HO, Hw, ⟨⟨Ma, Mb⟩, ⟨Mc, Md⟩⟩, H3, H4⟩ Hk
    iapply (wp_cut d0 (part6_spec m K d0 t M1 h1 M2 h2 M3 h3 M4 h4 ht ht9 (pj t.val) ej _ _ h _ hO)) $$ [Pa Ca Pb Cb HO Hw]
    · isplitr; · iexact HC
      isplitl [Pa]; · iexact Pa
      isplitl [Ca]; · iexact Ca
      isplitl [Pb]; · iexact Pb
      isplitl [Cb]; · iexact Cb
      isplitl [HO] <;> iassumption
    iintro %r ⟨%hr, Pa, Ca, Pb, Cb, HO, Hw, Ya, Hb, #Rb⟩
    obtain ⟨w0, w1, w2, w3⟩ := r
    obtain ⟨hr1, hr2⟩ := hr
    change w2 = _ at hr1
    change w3 = _ at hr2
    subst hr1 hr2
    iapply (wp_cut d0 (part7_spec m K d0 t M1 h1 M2 h2 M3 h3 M4 h4 ht ht9 _ _ h _ hO Y3)) $$ [Hb H3 Pc Cc HO]
    · isplitr; · iexact HC
      isplitl [Hb]; · iexact Hb
      isplitr; · iexact Rb
      isplitl [H3]; · iexact H3
      isplitl [Pc]; · iexact Pc
      isplitl [Cc] <;> iassumption
    iintro %a ⟨%ha, Yb, ⟨%Y', %hY', H3⟩, Pc, Cc, HO, Hc, #Rc⟩
    subst ha
    iapply (wp_recv m K d0 2 (t.val - 2) 1 hu _ (by rw [if_pos rfl]; exact hO) (comV_off (off26_at t ht) _) (semC_off (off25_at t ht) _)) $$ [Pd Cd HO]
    · isplitr; · iexact HC
      isplitl [Pd]; · iexact Pd
      isplitl [Cd] <;> iassumption
    iintro ⟨Pd, Cd, HO, Hd, #Rd, -⟩
    iapply (wp_loadOwn d0 (pj t.val) 1 (by rw [ej]; exact off27_at t ht)) $$ Hw
    iintro Hw
    iapply (wp_loadDir d0 (t.val - 2) 1 (off28_at t ht)) $$ Hc
    iintro Hc
    iapply (wp_loadCom d0 (t.val - 2) 1 (off28_at t ht)) $$ Hd
    iintro Hd
    iapply (wp_loadAW d0) $$ H3
    iintro %_ H3
    iapply (wp_storeW d0) $$ H3
    iintro ⟨%Y'', %hY'', H3⟩
    have hy : Y'' = yM m d0 (t.val - 2) := yM_of m d0 (t.val - 2) Y' Y'' hY' hY''.1 hY''.2
    rw [hy]
    iapply (wp_condJ d0 (OWN d0 M4 Y4) (OWN d0 M4 (aMid m d0 t.val Y4)) ?hA7 ?hB7) $$ [H4]
    case hA7 =>
      intro h7
      have h2 := (cond7_iff t).mp h7
      iintro H4 Hk
      iapply (wp_loadAW d0) $$ H4
      iintro %_ H4
      iapply (wp_storeAll d0 (v := M4) (by decide)) $$ H4
      iintro H4
      iapply Hk
      unfold aMid
      rw [if_pos h2, h2]
      iexact H4
    case hB7 =>
      intro h7
      unfold aMid
      rw [if_neg (fun h => h7 ((cond7_iff t).mpr h))]
    · iexact H4
    iintro H4
    iapply (wp_condJ d0 (OWN d0 M4 (aMid m d0 t.val Y4)) (OWN d0 M4 (aM m d0 (t.val - 2))) ?hA8 ?hB8) $$ [H4]
    case hA8 =>
      intro h8
      have h3 := (cond8_iff t).mp h8
      have ea : aMid m d0 t.val Y4 = aM m d0 (t.val - 3) := by unfold aMid; rw [if_neg (by omega), hY4 h3]
      have eb : aM m d0 (t.val - 2) = k0_pay4 (aL m d0 (t.val - 2)) (half 1 (ownM m d0 (t.val - 2))) (got m 0 (t.val - 2) 1 d0) (got m 2 (t.val - 2) 1 d0) (aM m d0 (t.val - 3)) := by
        rw [show t.val - 2 = t.val - 3 + 1 by omega]; rfl
      rw [ea, eb]
      iintro H4 Hk
      iapply (wp_loadAll d0 (v := M4) (by decide)) $$ H4
      iintro H4
      iapply (wp_loadAW d0) $$ H4
      iintro %_ H4
      iapply (wp_storeAll d0 (v := M4) (by decide)) $$ H4
      iintro H4
      iapply Hk $$ H4
    case hB8 =>
      intro h8
      have h3 : t.val = 2 := by
        have : ¬3 ≤ t.val := fun h => h8 ((cond8_iff t).mpr h)
        omega
      unfold aMid
      rw [if_pos h3, h3]
    · iexact H4
    iintro H4
    iapply Hk
    isplitl [Pa Ca Pb Cb Pc Cc Pd Cd]
    · isplitl [Pa Ca Pb Cb]
      · isplitl [Pa]; · iexact Pa
        isplitl [Ca]; · iexact Ca
        isplitl [Pb] <;> iassumption
      · isplitl [Pc]; · iexact Pc
        isplitl [Cc]; · iexact Cc
        isplitl [Pd] <;> iassumption
    isplitl [HO]; · iexact HO
    isplitl [Hw]; · iexact Hw
    ihave Yc := (permit_of d0 0 (t.val - 2) 1) $$ [Hc]
    · isplitl [Hc]; · iexact Hc
      iexact Rc
    ihave Yd := (permit_of d0 2 (t.val - 2) 1) $$ [Hd]
    · isplitl [Hd]; · iexact Hd
      iexact Rd
    rw [show t.val - 2 + md 0 = hi0 t.val from e4, show t.val - 2 + md 2 = hi0 t.val from e4, e4]
    isplitl [Ma Mb Mc Md Ya Yb Yc Yd]
    · isplitl [Ma Mb Ya Yb]
      · isplitl [Ma Ya]
        · iapply (MINE_push d0 0 0 eM); isplitl [Ma] <;> iassumption
        · iapply (MINE_push d0 2 0 eM); isplitl [Mb] <;> iassumption
      · isplitl [Mc Yc]
        · iapply (MINE_push d0 0 1 eM); isplitl [Mc] <;> iassumption
        · iapply (MINE_push d0 2 1 eM); isplitl [Md] <;> iassumption
    isplitl [H3] <;> iassumption
  case hB => intro h; exact E_idle m K t.val d0 (fun h0 => h ((cond6_iff t).mpr h0)) M3 M4 Y3 Y4
  · unfold EIn
    isplitr; · iexact HC
    isplitl [HV]; · iexact HV
    isplitl [HO]; · iexact HO
    isplitl [HO0]; · iexact HO0
    isplitl [HM02]; · iexact HM02
    isplitl [H3] <;> iassumption
  iintro HE
  unfold EOut
  icases HE with ⟨HV, HO, HO0, HM02, H3, H4⟩
  iapply (wp_condJ d0 iprop(Own m t.val d0 ∗ OWN d0 M1 (xblk m d0) ∗ OWN d0 M2 Y2) iprop(Own m (t.val + 2) d0 ∗ OWN d0 M1 (xblk m d0) ∗ OWN d0 M2 Y2) ?hA9 ?hB9) $$ [HO0 H1 H2]
  case hA9 =>
    intro h
    have ht := (cond9_iff t).mp h
    have hY := hY2 ht
    subst hY
    iintro ⟨H, H1, H2⟩ Hk
    ihave H := (F_open m t.val d0) $$ H
    iapply (wp_loadRows m d0 d0 (off29_own d0)) $$ H1
    iintro H1
    iapply (wp_loadAll d0 (v := M2) (by decide)) $$ H2
    iintro H2
    iapply (wp_storeOwn d0 (pj t.val) (off30_at t)) $$ H
    iintro H
    iapply Hk
    rw [ownM_eq]
    isplitl [H]
    · iapply (F_close m t.val d0 ht) $$ H
    isplitl [H1] <;> iassumption
  case hB9 =>
    intro h
    iintro ⟨H, H'⟩
    isplitl [H]
    · iapply (F_idle m t.val d0 (fun h0 => h ((cond9_iff t).mpr h0)) ht9) $$ H
    · iexact H'
  · isplitl [HO0]; · iexact HO0
    isplitl [H1] <;> iassumption
  iintro ⟨HO2, H1, H2⟩
  iapply (wp_done d0)
  rw [show Bar (t.val + 1) d0 = atPos ER (bcell d0) 1 ∅ 0 from if_neg (Nat.succ_ne_zero _), lo_succ]
  isplitr [HO H1 H2 H3 H4]
  · isplitr; · iexact HC
    isplitl [Hbar]; · iexact Hbar
    isplitl [HM1]; · iexact HM1
    isplitl [HM02]; · iexact HM02
    isplitl [HA]; · iexact HA
    isplitl [HB2]; · iexact HB2
    isplitl [HT]; · iexact HT
    isplitl [HR]; · iexact HR
    isplitl [HV]; · iexact HV
    isplitl [HP]; · iexact HP
    isplitl [HK]; · iexact HK
    isplitl [HO1] <;> iassumption
  isplitl [HO]; · iexact HO
  isplitl [H1]; · iexact H1
  isplitl [H2]; · iexact H2
  isplitl [H3] <;> iassumption

end Cert.Rs
-- ==== Proof.Cut.lean ====
/-
# The device's buffers as the slots its steps work with
-/
module

public import proofs.«01_k».proof.Proof.State

@[expose] public section

noncomputable section

namespace Cert.Rs

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## Products over intervals -/

/-- A product over as many consecutive numbers as its factors' period is the one over the first ones. -/
theorem bs_period (n : ℕ) (Φ : ℕ → sProp 𝕄) (h : ∀ u, Φ (u + n) = Φ u) (a : ℕ) :
    bigSep (Finset.Ico a (a + n)) Φ = bigSep (Finset.Ico 0 n) Φ := by
  induction a with
  | zero => rw [Nat.zero_add]
  | succ a ih =>
    rw [← ih]
    rcases Nat.eq_zero_or_pos n with rfl | hn
    · simp only [Nat.add_zero, Finset.Ico_self]
    · rw [show a + 1 + n = a + n + 1 by omega, bs_top (F := F) (a := a + 1) (b := a + n) (by omega), bs_bot (F := F) (a := a) (b := a + n) (by omega), h a]

omit [FloatOps F] in
/-- A product over the first numbers, as one over a finite type. -/
theorem bs_fin (n : ℕ) (Φ : ℕ → sProp 𝕄) : bigSep (Finset.univ : Finset (Fin n)) (fun u => Φ u.val) = bigSep (Finset.Ico 0 n) Φ := by
  have h : Finset.Ico 0 n = (Finset.univ : Finset (Fin n)).map Fin.valEmbedding := by
    ext x
    simp only [Finset.mem_Ico, Finset.mem_map, Finset.mem_univ, true_and, Fin.valEmbedding_apply]
    exact ⟨fun hx => ⟨⟨x, hx.2⟩, rfl⟩, fun ⟨y, hy⟩ => hy ▸ ⟨Nat.zero_le _, y.isLt⟩⟩
  rw [h, bigSep_map]
  rfl

omit [FloatOps F] in
theorem bs_fin2 (Φ : Fin 2 → sProp 𝕄) : bigSep Finset.univ Φ = iprop(Φ 0 ∗ Φ 1) := bigSep_univ_eq_bigSepL [0, 1] (by decide) (by decide) Φ
omit [FloatOps F] in
theorem bs_fin3 (Φ : Fin 3 → sProp 𝕄) : bigSep Finset.univ Φ = iprop(Φ 0 ∗ Φ 1 ∗ Φ 2) := bigSep_univ_eq_bigSepL [0, 1, 2] (by decide) (by decide) Φ

/-! ## A view cut into rectangles -/

section Cut
variable (c : Dev nD) {s : Shape} {e : EltTy}

omit [FloatOps F] in
theorem any_pts (v : Memref sig .tc .vmem s e) : anyAt (F := F) c v = iprop(∃ f, v.view.loc (c : Thread nD τ) ↦[v.view.set]{fullShare} f) := by
  refine BI.equiv_iff.mp ⟨?_, ?_⟩
  · show anyAt (F := F) c v ⊢ _
    unfold anyAt owns
    iintro ⟨%X, %f, -, H⟩
    iexists f; iexact H
  · show _ ⊢ anyAt (F := F) c v
    unfold anyAt owns
    iintro ⟨%f, H⟩
    iexists _; iexists f
    isplitr; · ipureintro; rfl
    iexact H

omit [FloatOps F] in

/-- A view that rectangles partition: holding it is holding each of them. -/
theorem cut_any [∀ e, Nonempty (Elt F e)] {I : Type} [Fintype I] [DecidableEq I] (v : Memref sig .tc .vmem s e) (R : I → Rect s) (hr : ∀ i a, (R i).stride a = 1)
    (hd : ∀ i i', i ≠ i' → Disjoint (R i).set (R i').set) (hu : ∀ x : s.Idx, ∃ i, x ∈ (R i).set) :
    anyAt (F := F) c v = bigSep Finset.univ fun i => anyAt c (v.slice (R i) (hr i)) := by
  have hset : v.view.set = Finset.univ.biUnion fun i => (v.slice (R i) (hr i)).view.set := by
    refine Finset.Subset.antisymm (fun y hy => ?_) (Finset.biUnion_subset.mpr fun i _ => View.set_slice_subset _ _)
    obtain ⟨x, -, rfl⟩ := Finset.mem_map.mp hy
    obtain ⟨i, hi⟩ := hu x
    refine Finset.mem_biUnion.mpr ⟨i, Finset.mem_univ i, ?_⟩
    show v.view.emb x ∈ (v.view.slice (R i)).set
    rw [View.set_slice]
    exact Finset.mem_map_of_mem _ hi
  have hdis : ∀ i ∈ (Finset.univ : Finset I), ∀ i' ∈ (Finset.univ : Finset I), i ≠ i' → Disjoint (v.slice (R i) (hr i)).view.set (v.slice (R i') (hr i')).view.set := by
    intro i _ i' _ h
    simp only [Memref.view_slice, View.set_slice]
    exact (Finset.disjoint_map _).mpr (hd i i' h)
  have : Nonempty (Buf (Elt F) (v.view.loc (c : Thread nD τ))) := ⟨fun _ => Classical.arbitrary _⟩
  have hm (f : Buf (Elt F) (v.view.loc (c : Thread nD τ))) : (bigSep Finset.univ fun i => (v.view.loc (c : Thread nD τ) ↦[(v.slice (R i) (hr i)).view.set]{fullShare} f : sProp 𝕄))
      ⊢ bigSep Finset.univ fun i => iprop(∃ f : Buf (Elt F) (v.view.loc (c : Thread nD τ)), v.view.loc (c : Thread nD τ) ↦[(v.slice (R i) (hr i)).view.set]{fullShare} f) :=
    bigSep_mono fun i _ => show (v.view.loc (c : Thread nD τ) ↦[(v.slice (R i) (hr i)).view.set]{fullShare} f : sProp 𝕄)
      ⊢ iprop(∃ f : Buf (Elt F) (v.view.loc (c : Thread nD τ)), v.view.loc (c : Thread nD τ) ↦[(v.slice (R i) (hr i)).view.set]{fullShare} f) from by
        iintro H; iexists f; iexact H
  have hl : (iprop(∃ f, v.view.loc (c : Thread nD τ) ↦[v.view.set]{fullShare} f) : sProp 𝕄)
      ⊢ bigSep Finset.univ fun i => iprop(∃ f : Buf (Elt F) (v.view.loc (c : Thread nD τ)), v.view.loc (c : Thread nD τ) ↦[(v.slice (R i) (hr i)).view.set]{fullShare} f) := by
    have hf (f : Buf (Elt F) (v.view.loc (c : Thread nD τ))) : (v.view.loc (c : Thread nD τ) ↦[v.view.set]{fullShare} f : sProp 𝕄)
        ⊢ bigSep Finset.univ fun i => iprop(∃ f : Buf (Elt F) (v.view.loc (c : Thread nD τ)), v.view.loc (c : Thread nD τ) ↦[(v.slice (R i) (hr i)).view.set]{fullShare} f) := by
      rw [hset, pointsTo_biUnion _ _ hdis]
      exact hm f
    iintro ⟨%f, H⟩
    iapply (hf f) $$ H
  have hj : iprop(∃ fs : (i : I) → Buf (Elt F) (v.view.loc (c : Thread nD τ)), bigSep Finset.univ fun i => (v.view.loc (c : Thread nD τ) ↦[(v.slice (R i) (hr i)).view.set]{fullShare} fs i : sProp 𝕄))
      ⊢ (iprop(∃ f, v.view.loc (c : Thread nD τ) ↦[v.view.set]{fullShare} f) : sProp 𝕄) := by
    iintro ⟨%fs, H⟩
    ihave H := (pointsTo_biUnion_join Finset.univ (fun i => (v.slice (R i) (hr i)).view.set) fs (Classical.arbitrary _) hdis) $$ H
    icases H with ⟨%g, -, H⟩
    iexists g
    rw [hset]
    iexact H
  simp only [any_pts]
  exact BI.equiv_iff.mp ⟨hl, (bigSep_exists_pi Finset.univ fun i (f : Buf (Elt F) (v.view.loc (c : Thread nD τ))) => (v.view.loc (c : Thread nD τ) ↦[(v.slice (R i) (hr i)).view.set]{fullShare} f : sProp 𝕄)).trans hj⟩

omit [FloatOps F] in
theorem any_buf (v : Memref sig .tc .vmem s e) (hv : v.view.set = Finset.univ) :
    (iprop(∃ f, v.view.loc (c : Thread nD τ) ↦{fullShare} f) : sProp 𝕄) = anyAt (F := F) c v := by
  rw [any_pts, hv]
omit [FloatOps F] in
theorem any_sq (v : Memref sig .tc .vmem s e) {s' : Shape} (h : s.Squeezes s') : anyAt (F := F) c (v.squeeze s' h) = anyAt c v :=
  BI.equiv_iff.mp ⟨any_unsqueeze c h, any_squeeze c h⟩

theorem unit_disjoint {off off' size size' : Fin s.rank → ℕ} {h h'} (a : Fin s.rank) (hd : off a + size a ≤ off' a ∨ off' a + size' a ≤ off a) :
    Disjoint (Rect.unit (s := s) off size h).set (Rect.unit (s := s) off' size' h').set := by
  refine Finset.disjoint_left.mpr fun x hx hx' => ?_
  have h1 := (Rect.mem_set_unit.mp hx) a
  have h2 := (Rect.mem_set_unit.mp hx') a
  omega
end Cut

/-! ## The seven buffers -/

section Bufs
variable (c : Dev nD)

/-- The slots of kind `k`, stream `s`, from block `a`'s on. -/
def slots (k : Fin 3) (s : Fin 2) (a : ℕ) : sProp 𝕄 := bigSep (Finset.Ico a (a + md k)) fun u => anyAt c (rslot k u s)

theorem slots_start (k : Fin 3) (s : Fin 2) (a : ℕ) : slots (F := F) c k s a = slots c k s 0 := by
  unfold slots
  rw [Nat.zero_add]
  exact bs_period (md k) _ (fun u => by rw [rslot_add_md]) a

theorem slots_any {n : ℕ} (v : Memref sig .tc .vmem ⟨4, ![n, 2, 1024, 512]⟩ .bf16) [∀ e, Nonempty (Elt F e)] :
    anyAt (F := F) c v = iprop((bigSep Finset.univ fun p : Fin n => anyAt c (v.slice (Rect.unit (s := ⟨4, ![n, 2, 1024, 512]⟩) ![p.val, (0 : Fin 2).val, 0, 0] S1x1x1024x512.size (inb4 p 0)) fun _ => rfl))
      ∗ bigSep Finset.univ fun p : Fin n => anyAt c (v.slice (Rect.unit (s := ⟨4, ![n, 2, 1024, 512]⟩) ![p.val, (1 : Fin 2).val, 0, 0] S1x1x1024x512.size (inb4 p 1)) fun _ => rfl)) := by
  rw [cut_any c v (fun i : Fin 2 × Fin n => Rect.unit (s := ⟨4, ![n, 2, 1024, 512]⟩) ![i.2.val, i.1.val, 0, 0] S1x1x1024x512.size (inb4 i.2 i.1)) (fun _ _ => rfl) ?_ ?_,
    bigSep_univ_prod, bs_fin2]
  · rintro ⟨s, p⟩ ⟨s', p'⟩ h
    by_cases hp : p = p'
    · subst hp
      have hs : s.val ≠ s'.val := fun e => h (by rw [Fin.ext e])
      exact unit_disjoint (1 : Fin 4) (by show s.val + 1 ≤ s'.val ∨ s'.val + 1 ≤ s.val; omega)
    · have hs : p.val ≠ p'.val := fun e => hp (Fin.ext e)
      exact unit_disjoint (0 : Fin 4) (by show p.val + 1 ≤ p'.val ∨ p'.val + 1 ≤ p.val; omega)
  · intro x
    have h0 : (x 0).val < n := (x 0).isLt
    have h1 : (x 1).val < 2 := (x 1).isLt
    have h2 : (x 2).val < 1024 := (x 2).isLt
    have h3 : (x 3).val < 512 := (x 3).isLt
    refine ⟨(⟨(x 1).val, h1⟩, ⟨(x 0).val, h0⟩), Rect.mem_set_unit.mpr fun a => ?_⟩
    fin_cases a
    · exact ⟨Nat.le_refl _, Nat.lt_succ_self _⟩
    · exact ⟨Nat.le_refl _, Nat.lt_succ_self _⟩
    · exact ⟨Nat.zero_le _, by show (x 2).val < 0 + 1024; omega⟩
    · exact ⟨Nat.zero_le _, by show (x 3).val < 0 + 512; omega⟩

/-- The landing buffer of kind `k` is its slots. -/
theorem slots_of (k : Fin 3) (s : Fin 2) (V : Fin (md k) → Memref sig .tc .vmem S1x1x1024x512 .bf16) (hV : ∀ p : Fin (md k), rslot4 k p.val s = V p) :
    (bigSep Finset.univ fun p => anyAt (F := F) c (V p)) = slots c k s 0 := by
  unfold slots
  rw [Nat.zero_add, ← bs_fin]
  exact bigSep_congr fun p _ => by unfold rslot; rw [any_sq, hV]
variable [∀ e, Nonempty (Elt F e)]
theorem cut_dir : anyAt (F := F) c dirB = iprop(slots c 0 0 0 ∗ slots c 0 1 0) := by
  refine (slots_any (n := 4) c dirB).trans (congrArg₂ BIBase.sep (slots_of c 0 0 (fun p => dirV p 0) fun p => ?_) (slots_of c 0 1 (fun p => dirV p 1) fun p => ?_)) <;>
    exact congrArg (fun q => dirV q _) (Fin.ext (Nat.mod_eq_of_lt p.isLt))
theorem cut_rel : anyAt (F := F) c relB = iprop(slots c 1 0 0 ∗ slots c 1 1 0) := by
  refine (slots_any (n := 3) c relB).trans (congrArg₂ BIBase.sep (slots_of c 1 0 (fun p => relV p 0) fun p => ?_) (slots_of c 1 1 (fun p => relV p 1) fun p => ?_)) <;>
    exact congrArg (fun q => relV q _) (Fin.ext (Nat.mod_eq_of_lt p.isLt))
theorem cut_com : anyAt (F := F) c comB = iprop(slots c 2 0 0 ∗ slots c 2 1 0) := by
  refine (slots_any (n := 4) c comB).trans (congrArg₂ BIBase.sep (slots_of c 2 0 (fun p => comV p 0) fun p => ?_) (slots_of c 2 1 (fun p => comV p 1) fun p => ?_)) <;>
    exact congrArg (fun q => comV q _) (Fin.ext (Nat.mod_eq_of_lt p.isLt))

/-- The neighbours' partial products are four half planes. -/
theorem cut_nbr : anyAt (F := F) c nbrB = iprop((anyAt c (src3 0 0) ∗ anyAt c (nbrH 0 1)) ∗ anyAt c (nbrH 1 0) ∗ anyAt c (src3 0 1)) := by
  rw [cut_any c nbrB (fun i : Fin 2 × Fin 2 => Rect.unit (s := S2x1024x1024) ![i.1.val, 0, 512 * i.2.val] S1x1024x512.size (inb3h i.1 i.2)) (fun _ _ => rfl) ?_ ?_,
    bigSep_univ_prod, bs_fin2, bs_fin2, bs_fin2]
  · rfl
  · rintro ⟨s, p⟩ ⟨s', p'⟩ h
    by_cases hp : s = s'
    · subst hp
      have hs : p.val ≠ p'.val := fun e => h (by rw [Fin.ext e])
      exact unit_disjoint (2 : Fin 3) (by show 512 * p.val + 512 ≤ 512 * p'.val ∨ 512 * p'.val + 512 ≤ 512 * p.val; omega)
    · have hs : s.val ≠ s'.val := fun e => hp (Fin.ext e)
      exact unit_disjoint (0 : Fin 3) (by show s.val + 1 ≤ s'.val ∨ s'.val + 1 ≤ s.val; omega)
  · intro x
    have h0 : (x 0).val < 2 := (x 0).isLt
    have h1 : (x 1).val < 1024 := (x 1).isLt
    have h2 : (x 2).val < 1024 := (x 2).isLt
    refine ⟨(⟨(x 0).val, h0⟩, ⟨(x 2).val / 512, by omega⟩), Rect.mem_set_unit.mpr fun a => ?_⟩
    fin_cases a
    · exact ⟨Nat.le_refl _, Nat.lt_succ_self _⟩
    · exact ⟨Nat.zero_le _, by show (x 1).val < 0 + 1024; omega⟩
    · show 512 * ((x 2).val / 512) ≤ (x 2).val ∧ (x 2).val < 512 * ((x 2).val / 512) + 512
      omega

/-- A buffer of two planes is its planes. -/
theorem cut_planes {a b : ℕ} (v : Memref sig .tc .vmem ⟨3, ![2, a, b]⟩ .bf16) (hin : ∀ (j : Fin 2) i, (![j.val, 0, 0] : Fin 3 → ℕ) i + (![1, a, b] : Fin 3 → ℕ) i ≤ (![2, a, b] : Fin 3 → ℕ) i) :
    anyAt (F := F) c v = iprop(anyAt c (v.slice (Rect.unit (s := ⟨3, ![2, a, b]⟩) ![(0 : Fin 2).val, 0, 0] ![1, a, b] (hin 0)) fun _ => rfl)
      ∗ anyAt c (v.slice (Rect.unit (s := ⟨3, ![2, a, b]⟩) ![(1 : Fin 2).val, 0, 0] ![1, a, b] (hin 1)) fun _ => rfl)) := by
  rw [cut_any c v (fun i : Fin 2 => Rect.unit (s := ⟨3, ![2, a, b]⟩) ![i.val, 0, 0] ![1, a, b] (hin i)) (fun _ _ => rfl) ?_ ?_, bs_fin2]
  · intro s s' h
    have hs : s.val ≠ s'.val := fun e => h (Fin.ext e)
    exact unit_disjoint (0 : Fin 3) (by show s.val + 1 ≤ s'.val ∨ s'.val + 1 ≤ s.val; omega)
  · intro x
    have h0 : (x 0).val < 2 := (x 0).isLt
    have h1 : (x 1).val < a := (x 1).isLt
    have h2 : (x 2).val < b := (x 2).isLt
    refine ⟨⟨(x 0).val, h0⟩, Rect.mem_set_unit.mpr fun i => ?_⟩
    fin_cases i
    · exact ⟨Nat.le_refl _, Nat.lt_succ_self _⟩
    · exact ⟨Nat.zero_le _, by show (x 1).val < 0 + a; omega⟩
    · exact ⟨Nat.zero_le _, by show (x 2).val < 0 + b; omega⟩
theorem cut_own : anyAt (F := F) c ownB = iprop(anyAt c (ownP 0) ∗ anyAt c (ownP 1)) := cut_planes c ownB inb3p
theorem cut_rsnd : anyAt (F := F) c rsndB = iprop(anyAt c (src3 1 0) ∗ anyAt c (src3 1 1)) := cut_planes c rsndB inb3s
theorem cut_csnd : anyAt (F := F) c csndB = iprop(anyAt c (src3 2 0) ∗ anyAt c (src3 2 1)) := cut_planes c csndB inb3s

/-- The scoped buffers besides the staging ones, cut. -/
theorem rest_cut : (Pipeline.scopedRest (Ix := ℕ) (Name := ℕ) (U := UU) (Lvl := ℕ) (Val := Elt F) spec0 c : sProp 𝕄)
    = iprop(((anyAt c (src3 0 0) ∗ anyAt c (nbrH 0 1)) ∗ anyAt c (nbrH 1 0) ∗ anyAt c (src3 0 1)) ∗ (anyAt c (ownP 0) ∗ anyAt c (ownP 1))
      ∗ (anyAt c (src3 1 0) ∗ anyAt c (src3 1 1)) ∗ (anyAt c (src3 2 0) ∗ anyAt c (src3 2 1))
      ∗ (slots c 0 0 0 ∗ slots c 0 1 0) ∗ (slots c 1 0 0 ∗ slots c 1 1 0) ∗ (slots c 2 0 0 ∗ slots c 2 1 0)) := by
  rw [scopedRest0_eq, ← cut_nbr, ← cut_own, ← cut_rsnd, ← cut_csnd, ← cut_dir, ← cut_rel, ← cut_com,
    ← any_buf c nbrB (View.set_whole _), ← any_buf c ownB (View.set_whole _), ← any_buf c rsndB (View.set_whole _), ← any_buf c csndB (View.set_whole _),
    ← any_buf c dirB (View.set_whole _), ← any_buf c relB (View.set_whole _), ← any_buf c comB (View.set_whole _)]
end Bufs

end Cert.Rs
-- ==== Proof.Exit.lean ====
/-
# After the last step: every semaphore of the exchange at zero, every buffer whole again
-/
module

public import proofs.«01_k».proof.Proof.Cut

@[expose] public section

noncomputable section

namespace Cert.Rs

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (K : Dev nD × Fin 29 → ℕ)

/-- The kernel's own semaphores. -/
abbrev osem : Fin 28 → SemLoc sig := fun j => .dma ⟨6 + j.val, by show _ < 34; omega⟩

omit [FloatOps F] in
theorem sepR (P Q R : sProp 𝕄) : iprop((P ∗ Q) ∗ R) = iprop(P ∗ Q ∗ R) := by
  refine BI.equiv_iff.mp ⟨?_, ?_⟩
  · show iprop((P ∗ Q) ∗ R) ⊢ iprop(P ∗ Q ∗ R)
    iintro ⟨⟨A, B⟩, C⟩
    isplitl [A]; · iexact A
    isplitl [B] <;> iassumption
  · show iprop(P ∗ Q ∗ R) ⊢ iprop((P ∗ Q) ∗ R)
    iintro ⟨A, B, C⟩
    isplitr [C]
    · isplitl [A] <;> iassumption
    iexact C

/-- A product over them, as one over departures and arrivals. -/
def sends (Φ : SemLoc sig → sProp 𝕄) : sProp 𝕄 := bigSep Finset.univ fun k : Fin 3 => bigSep Finset.univ fun s : Fin 2 => Φ (.dma (sS k s))
def arrivals (Φ : SemLoc sig → sProp 𝕄) : sProp 𝕄 :=
  bigSep Finset.univ fun k : Fin 3 => bigSep Finset.univ fun s : Fin 2 => bigSep (Finset.Ico 0 (md k)) fun u => Φ (.dma (rS k u s))
omit [FloatOps F] in
theorem sems_split (Φ : SemLoc sig → sProp 𝕄) : bigSep Finset.univ (fun j : Fin 28 => Φ (osem j)) = iprop(sends Φ ∗ arrivals Φ) := by
  have h4 (f : ℕ → sProp 𝕄) : bigSep (Finset.Ico 0 4) f = iprop(f 0 ∗ f 1 ∗ f 2 ∗ f 3) := by
    rw [← bs_fin]; exact bigSep_univ_eq_bigSepL [0, 1, 2, 3] (by decide) (by decide) _
  have h3 (f : ℕ → sProp 𝕄) : bigSep (Finset.Ico 0 3) f = iprop(f 0 ∗ f 1 ∗ f 2) := by
    rw [← bs_fin]; exact bigSep_univ_eq_bigSepL [0, 1, 2] (by decide) (by decide) _
  have e0 : md 0 = 4 := rfl
  have e1 : md 1 = 3 := rfl
  have e2 : md 2 = 4 := rfl
  unfold sends arrivals
  simp only [bs_fin3, bs_fin2, e0, e1, e2, h4, h3, sepR]
  exact bigSep_univ_eq_bigSepL [0, 1, 2, 3, 4, 5, 6, 8, 10, 12, 7, 9, 11, 13, 14, 16, 18, 15, 17, 19, 20, 22, 24, 26, 21, 23, 25, 27] (by decide) (by decide) (fun j : Fin 28 => Φ (osem j))

omit [FloatOps F] in
theorem own_split (c : Dev nD) : (Pipeline.ownSems0 (Ix := ℕ) (Name := ℕ) (U := UU) (Lvl := ℕ) (Val := Elt F) (τ := τ) osem c : sProp 𝕄)
    = iprop(sends (fun q => semVal ((c : Thread nD τ), q) 0) ∗ arrivals (fun q => semVal ((c : Thread nD τ), q) 0)) :=
  sems_split fun q => semVal ((c : Thread nD τ), q) 0
omit [FloatOps F] in
theorem bar_split (c : Dev nD) : (unscopedSems0 c : sProp 𝕄) = semVal (bcell c) 0 := by
  unfold unscopedSems0; rw [bigSep_eq_bigSepL_of_eq [SemLoc.reg barS] (by decide) (by decide)]; rfl

/-- What a device gives back. -/
def Closed (c : Dev nD) : sProp 𝕄 := iprop(unscopedSems0 c ∗ Pipeline.ownSems0 osem c ∗ Pipeline.scopedRest spec0 c)

section
variable (c : Dev nD) (k : Fin 3) (s : Fin 2)

theorem close_bar : iprop(ctx m K ∗ atPos ER (bcell c) 1 ∅ 0) ⊢ |={Set.univ}=> (semVal (bcell c) 0 : sProp 𝕄) := by
  unfold ctx
  iintro ⟨⟨#HR, -⟩, Hat⟩
  imod (Rounds.cell_close ER (Rd m) (Set.mem_univ (K (c, jB))) (fun h => h) (R := 1) (fun r hr => duties_bar_later m c r hr)) $$ [Hat] with Hz
  · isplitr; · iapply (inv_at m K c jB (kcell_B c)); iexact HR
    iexact Hat
  imodintro; iexact Hz
theorem close_send : iprop(ctx m K ∗ sndI k s 8 c) ⊢ |={Set.univ}=> iprop(semVal ((c : Thread nD τ), .dma (sS k s)) 0 ∗ anyAt (F := F) c (src3 k s)) := by
  unfold ctx sndI sndC
  iintro ⟨⟨#HR, -⟩, ⟨Hat, -, -⟩, Hs⟩
  imod (Rounds.cell_close ER (Rd m) (Set.mem_univ (K (c, jS k s))) (fun h => h) (R := 8) (fun r hr => duties_send_later m k s c r hr)) $$ [Hat] with Hz
  · isplitr; · iapply (inv_at m K c (jS k s) (kcell_S k s c)); iexact HR
    iexact Hat
  imodintro
  isplitl [Hz]; · iexact Hz
  iexact Hs
theorem close_one {u : ℕ} (h : 8 ≤ u) : iprop(ctx m K ∗ atPos ER (rcell k u s c) (u / md k) ∅ 0) ⊢ |={Set.univ}=> (semVal ((c : Thread nD τ), .dma (rS k u s)) 0 : sProp 𝕄) := by
  unfold ctx
  iintro ⟨⟨#HR, -⟩, Hat⟩
  imod (Rounds.cell_close ER (Rd m) (Set.mem_univ (K (c, jR k u s))) (fun h => h) (R := u / md k) (fun r hr => duties_recv_later m k u s c h r hr)) $$ [Hat] with Hz
  · isplitr; · iapply (inv_at m K c (jR k u s) (kcell_R k u s c)); iexact HR
    iexact Hat
  imodintro; iexact Hz
theorem close_recv : iprop(ctx m K ∗ POS k s 8 c)
    ⊢ |={Set.univ}=> (bigSep (Finset.Ico 0 (md k)) fun u => semVal ((c : Thread nD τ), .dma (rS k u s)) 0 : sProp 𝕄) := by
  rw [← bs_period (md k) (fun u => (semVal ((c : Thread nD τ), .dma (rS k u s)) 0 : sProp 𝕄)) (fun u => by rw [rS_add_md]) 8]
  unfold POS
  exact (bigSep_with_persistent (R := ctx m K) fun u hu => close_one m K c k s (Finset.mem_Ico.mp hu).1).trans (bigSep_fupd _ _)
theorem mine_slots : MINE (F := F) k s 8 (8 + md k) c ⊢ slots c k s 0 := by
  rw [← slots_start c k s 8]
  unfold MINE slots
  exact bigSep_mono fun u _ => show permit k u s c ⊢ anyAt c (rslot k u s) from by
    unfold permit; iintro ⟨H, -⟩; iexact H
end

variable [∀ e, Nonempty (Elt F e)]
theorem sends_of (Φ : SemLoc sig → sProp 𝕄) : sends Φ = iprop((Φ (.dma (sS 0 0)) ∗ Φ (.dma (sS 0 1))) ∗ (Φ (.dma (sS 1 0)) ∗ Φ (.dma (sS 1 1))) ∗ (Φ (.dma (sS 2 0)) ∗ Φ (.dma (sS 2 1)))) := by
  unfold sends; rw [bs_fin3, bs_fin2, bs_fin2, bs_fin2]

set_option maxHeartbeats 800000 in
/-- What a device holds after the last step closes: every counter of its own at zero, every buffer whole. -/
theorem exit (c : Dev nD) : Held m K 10 c ⊢ |={Set.univ}=> Closed (F := F) c := by
  have hB : Bar (F := F) 10 c = atPos ER (bcell c) 1 ∅ 0 := if_neg (by decide)
  have hS (k : Fin 3) (s : Fin 2) : SND (F := F) k s 10 c = sndI k s 8 c := SND_idle (by decide) c
  have hS' (k : Fin 3) (s : Fin 2) : SND (F := F) k s (10 - 1) c = sndI k s 8 c := SND_idle (by decide) c
  have hK : Kept m 10 c = Any01 c := if_neg (by decide)
  have hO : Own m 10 c = anyAt c (ownP 0) := if_neg (by decide)
  have hO' : Own m (10 + 1) c = anyAt c (ownP 1) := if_neg (by decide)
  unfold Held Snd01 Snd2 Rel Arr Mine1 Mine02
  rw [hB, hS, hS, hS, hS, hS', hS', hK, hO, hO']
  unfold Any01
  iintro ⟨#HC, Hbar, ⟨Hm10, Hm11⟩, ⟨⟨Hm00, Hm20⟩, Hm01, Hm21⟩, ⟨Hs00, Hs10, Hs01, Hs11⟩, ⟨Hs20, Hs21⟩, -, ⟨⟨-, Hp10, -⟩, -, Hp11, -⟩, ⟨⟨Hp00, -, Hp20, -⟩, Hp01, -, Hp21, -⟩, -, ⟨Hn10, Hn01⟩, Ho0, Ho1⟩
  imod (close_bar m K c) $$ [Hbar] with Hz
  · isplitr; · iexact HC
    iexact Hbar
  imod (close_send m K c 0 0) $$ [Hs00] with ⟨Hz00, Hs00⟩
  · isplitr; · iexact HC
    iexact Hs00
  imod (close_send m K c 0 1) $$ [Hs01] with ⟨Hz01, Hs01⟩
  · isplitr; · iexact HC
    iexact Hs01
  imod (close_send m K c 1 0) $$ [Hs10] with ⟨Hz10, Hs10⟩
  · isplitr; · iexact HC
    iexact Hs10
  imod (close_send m K c 1 1) $$ [Hs11] with ⟨Hz11, Hs11⟩
  · isplitr; · iexact HC
    iexact Hs11
  imod (close_send m K c 2 0) $$ [Hs20] with ⟨Hz20, Hs20⟩
  · isplitr; · iexact HC
    iexact Hs20
  imod (close_send m K c 2 1) $$ [Hs21] with ⟨Hz21, Hs21⟩
  · isplitr; · iexact HC
    iexact Hs21
  imod (close_recv m K c 0 0) $$ [Hp00] with Hy00
  · isplitr; · iexact HC
    iexact Hp00
  imod (close_recv m K c 0 1) $$ [Hp01] with Hy01
  · isplitr; · iexact HC
    iexact Hp01
  imod (close_recv m K c 1 0) $$ [Hp10] with Hy10
  · isplitr; · iexact HC
    iexact Hp10
  imod (close_recv m K c 1 1) $$ [Hp11] with Hy11
  · isplitr; · iexact HC
    iexact Hp11
  imod (close_recv m K c 2 0) $$ [Hp20] with Hy20
  · isplitr; · iexact HC
    iexact Hp20
  imod (close_recv m K c 2 1) $$ [Hp21] with Hy21
  · isplitr; · iexact HC
    iexact Hp21
  imodintro
  ihave Hm00 := (show MINE (F := F) 0 0 (lo 10) (hi0 10) c ⊢ slots c 0 0 0 from mine_slots c 0 0) $$ Hm00
  ihave Hm01 := (show MINE (F := F) 0 1 (lo 10) (hi0 10) c ⊢ slots c 0 1 0 from mine_slots c 0 1) $$ Hm01
  ihave Hm10 := (show MINE (F := F) 1 0 (lo 10) (hi1 10) c ⊢ slots c 1 0 0 from mine_slots c 1 0) $$ Hm10
  ihave Hm11 := (show MINE (F := F) 1 1 (lo 10) (hi1 10) c ⊢ slots c 1 1 0 from mine_slots c 1 1) $$ Hm11
  ihave Hm20 := (show MINE (F := F) 2 0 (lo 10) (hi0 10) c ⊢ slots c 2 0 0 from mine_slots c 2 0) $$ Hm20
  ihave Hm21 := (show MINE (F := F) 2 1 (lo 10) (hi0 10) c ⊢ slots c 2 1 0 from mine_slots c 2 1) $$ Hm21
  unfold Closed
  rw [bar_split, own_split, rest_cut, sends_of]
  unfold arrivals
  rw [bs_fin3, bs_fin2, bs_fin2, bs_fin2]
  isplitl [Hz]; · iexact Hz
  isplitl [Hz00 Hz01 Hz10 Hz11 Hz20 Hz21 Hy00 Hy01 Hy10 Hy11 Hy20 Hy21]
  · isplitl [Hz00 Hz01 Hz10 Hz11 Hz20 Hz21]
    · isplitl [Hz00 Hz01]; · isplitl [Hz00] <;> iassumption
      isplitl [Hz10 Hz11]; · isplitl [Hz10] <;> iassumption
      isplitl [Hz20] <;> iassumption
    · isplitl [Hy00 Hy01]; · isplitl [Hy00] <;> iassumption
      isplitl [Hy10 Hy11]; · isplitl [Hy10] <;> iassumption
      isplitl [Hy20] <;> iassumption
  isplitl [Hs00 Hn01 Hn10 Hs01]
  · isplitl [Hs00 Hn01]; · isplitl [Hs00] <;> iassumption
    isplitl [Hn10] <;> iassumption
  isplitl [Ho0 Ho1]; · isplitl [Ho0] <;> iassumption
  isplitl [Hs10 Hs11]; · isplitl [Hs10] <;> iassumption
  isplitl [Hs20 Hs21]; · isplitl [Hs20] <;> iassumption
  isplitl [Hm00 Hm01]; · isplitl [Hm00] <;> iassumption
  isplitl [Hm10 Hm11]; · isplitl [Hm10] <;> iassumption
  isplitl [Hm20] <;> iassumption

end Cert.Rs
-- ==== Proof.Data.lean ====
/-
# The pipeline's proof data and its body obligation

What every staging buffer holds at every step, what a device holds between steps, and that the kernel's body keeps it.
-/
module

public import proofs.«01_k».proof.Proof.Body
public import proofs.«01_k».proof.Proof.Exit
public import Idealize.ShloMosaic.Lib.Pipeline.FrameBody

@[expose] public section

noncomputable section

namespace Cert.Rs

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

open Idealize.ShloMosaic.Pipeline (Dat BodyObligation)

local notation "𝕄" => MT nD τ sig ℕ (Elt F) ℕ UU ℕ

variable (m : (ℓ : Loc nD τ sig) → Buf (Elt F) ℓ)

/-- What a device holds before step `t`; after the last one its cells are closed. -/
def Phi (n : ℕ) (c : Dev nD) : sProp 𝕄 := if n < 10 then iprop(∃ K, Held m K n c) else Closed c

/-- The arrays at the launch, what each staging buffer holds after each step, what the device holds and owes between steps. -/
def dats (_ : Fin 1) (c : Dev nD) : Dat τ (Elt F) ℕ ℕ UU ℕ cfg0 c where
  A w := m ((cfg0.win w).arr.view.loc (c : Thread nD τ))
  after w t := match w with
    | ⟨0, _⟩ => xblk m c
    | ⟨1, _⟩ => wblk m c t.val
    | ⟨2, _⟩ => yM m c (t.val - 2)
    | ⟨3, _⟩ => aM m c (t.val - 2)
  Φ t := Phi m t.val c
  q _ := fullShare
  owed t := owedAt c t.val

theorem before_x (c : Dev nD) (t : Fin cfg0.N) (d) : (dats m 0 c).before (0 : Fin 4) t d = xblk m c :=
  ((dats m 0 c).before_in_eq_fetched (0 : Fin 4) rfl (fun _ => rfl) (fun _ _ _ => rfl) (fun _ => rfl) t d).trans rfl

theorem before_w (c : Dev nD) (t : Fin cfg0.N) (d) : (dats m 0 c).before (1 : Fin 4) t d = wblk m c t.val := by
  refine ((dats m 0 c).before_in_eq_fetched (1 : Fin 4) rfl (fun _ => rfl) (fun _ _ _ => rfl) (fun t => ?_) t d).trans ?_
  · show wblk m c t.val = _
    unfold wblk; rw [pt_val]; rfl
  · show _ = wblk m c t.val
    unfold wblk; rw [pt_val]; rfl

theorem idle_y : ∀ t : Fin cfg0.N, cfg0.idle (2 : Fin 4) (cfg0.grid.coords t) = decide (t.val < 2) := by decide +kernel
theorem idle_a : ∀ t : Fin cfg0.N, cfg0.idle (3 : Fin 4) (cfg0.grid.coords t) = decide (t.val < 2) := by decide +kernel
theorem flush_y : ∀ t : Fin cfg0.N, t.val < 2 → (cfg0.win (2 : Fin 4)).flush t = false := by decide +kernel
theorem flush_a (t : Fin cfg0.N) (h : t.val < 9) : (cfg0.win (3 : Fin 4)).flush t = false := by
  rw [← Bool.not_eq_true, flush0_3]; omega
theorem fetch_a (t : Fin cfg0.N) : (cfg0.win (3 : Fin 4)).fetch t = false := rfl

theorem before_a (c : Dev nD) (t : Fin cfg0.N) (d) (h : 3 ≤ t.val) : (dats m 0 c).before (3 : Fin 4) t d = aM m c (t.val - 3) := by
  have hN : t.val < 10 := lt_of_lt_of_eq t.isLt N_0
  unfold Dat.before
  rw [fetch_a, if_neg Bool.false_ne_true, if_neg (by omega)]
  dsimp only
  rw [flush_a _ (by show t.val - 1 < 9; omega), if_neg Bool.false_ne_true,
    show idle0 (3 : Fin 4) (grid0.coords ⟨t.val - 1, lt_of_le_of_lt (Nat.sub_le _ _) t.isLt⟩) = false from (idle_a _).trans (decide_eq_false (by show ¬t.val - 1 < 2; omega))]
  show aM m c (t.val - 1 - 2) = _
  congr 1

theorem leaves_y (c : Dev nD) (t : Fin cfg0.N) (d) :
    (OWN c ((cfg0.win (2 : Fin 4)).stage (cfg0.slots t 2)) (if 2 ≤ t.val then yM m c (t.val - 2) else (dats m 0 c).before (2 : Fin 4) t d) : sProp 𝕄)
      ⊢ (dats m 0 c).leavesExact (2 : Fin 4) t := by
  by_cases h : 2 ≤ t.val
  · rw [if_pos h]
    unfold Dat.leavesExact
    rw [idle_y, decide_eq_false (by omega)]
    exact Entails.of_eq rfl
  · rw [if_neg h, Dat.leavesExact_idle _ _ _ (by rw [idle_y]; exact decide_eq_true (by omega)) (flush_y t (by omega))]
    iintro H; iexists d; iexact H
theorem leaves_a (c : Dev nD) (t : Fin cfg0.N) (d) :
    (OWN c ((cfg0.win (3 : Fin 4)).stage (cfg0.slots t 3)) (if 2 ≤ t.val then aM m c (t.val - 2) else (dats m 0 c).before (3 : Fin 4) t d) : sProp 𝕄)
      ⊢ (dats m 0 c).leavesExact (3 : Fin 4) t := by
  by_cases h : 2 ≤ t.val
  · rw [if_pos h]
    unfold Dat.leavesExact
    rw [idle_a, decide_eq_false (by omega)]
    exact Entails.of_eq rfl
  · rw [if_neg h, Dat.leavesExact_idle _ _ _ (by rw [idle_a]; exact decide_eq_true (by omega)) (flush_a t (by omega))]
    iintro H; iexists d; iexact H

/-- The device's holdings after a step: the next step's, or closed. -/
theorem held_next (K : Dev nD × Fin 29 → ℕ) (c : Dev nD) (n : ℕ) (h : n ≤ 10) : Held m K n c ⊢ |={Set.univ}=> Phi m n c := by
  unfold Phi
  by_cases hn : n < 10
  · rw [if_pos hn]
    iintro H; imodintro; iexists K; iexact H
  · obtain rfl : n = 10 := by omega
    rw [if_neg hn]
    exact exit m K c

set_option maxHeartbeats 1600000 in
/-- The body keeps what the pipeline is told of it. -/
theorem body_obligation (c : Dev nD) : BodyObligation (dats (F := F) m 0 c) (defs₀ (F := F)) Variants.none 0 Set.univ := fun t => by
  have hN : t.val < 10 := lt_of_lt_of_eq t.isLt N_0
  rw [bigSep_W0, bigSep_W0]
  show iprop(Phi m t.val c ∗ (dats m 0 c).owesAt 0 t.castSucc
      ∗ (∃ d, OWN c ((cfg0.win (0 : Fin 4)).stage (cfg0.slots t 0)) ((dats m 0 c).before (0 : Fin 4) t d))
      ∗ (∃ d, OWN c ((cfg0.win (1 : Fin 4)).stage (cfg0.slots t 1)) ((dats m 0 c).before (1 : Fin 4) t d))
      ∗ (∃ d, OWN c ((cfg0.win (2 : Fin 4)).stage (cfg0.slots t 2)) ((dats m 0 c).before (2 : Fin 4) t d))
      ∗ (∃ d, OWN c ((cfg0.win (3 : Fin 4)).stage (cfg0.slots t 3)) ((dats m 0 c).before (3 : Fin 4) t d)))
    ⊢ WP c (bodyAt0 t) fun _ => iprop(Phi m (t.val + 1) c ∗ (dats m 0 c).owesAt 0 t.succ
      ∗ (dats m 0 c).leavesExact (0 : Fin 4) t ∗ (dats m 0 c).leavesExact (1 : Fin 4) t ∗ (dats m 0 c).leavesExact (2 : Fin 4) t ∗ (dats m 0 c).leavesExact (3 : Fin 4) t)
  rw [show Phi m t.val c = iprop(∃ K, Held m K t.val c) from if_pos hN]
  iintro ⟨⟨%K, HH⟩, Ho, ⟨%d0, H0⟩, ⟨%d1, H1⟩, ⟨%d2, H2⟩, ⟨%d3, H3⟩⟩
  unfold Dat.owesAt Pipeline.owesWithin
  icases Ho with ⟨%W, %hW, HO⟩
  rw [before_x]
  have hb := body_spec m K c t (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3))
    _ (fun _ => before_w m c t d1) ((dats m 0 c).before (2 : Fin 4) t d2) _ (fun h => before_a m c t d3 h)
  iapply (hb.trans ((wp_mono frame _ Set.univ fun _ => ?_).trans (wp_fupd frame _ Set.univ _ _))) $$ [HH HO H0 H1 H2 H3]
  · iintro ⟨HH, HO, H0, H1, H2, H3⟩
    imod (held_next m K c (t.val + 1) (by omega)) $$ HH with HH
    imodintro
    isplitl [HH]; · iexact HH
    isplitl [HO]
    · unfold OWES
      icases HO with ⟨%W', HO⟩
      iexists W'
      isplitr; · ipureintro; exact fun _ _ => Or.inl trivial
      iexact HO
    isplitl [H0]; · iexact H0
    isplitl [H1]
    · rw [before_w]; iexact H1
    isplitl [H2]
    · iapply (leaves_y m c t d2) $$ H2
    · iapply (leaves_a m c t d3) $$ H3
  · isplitl [HH]; · iexact HH
    isplitl [HO]
    · unfold OWES; iexists W; iexact HO
    isplitl [H0]; · iexact H0
    isplitl [H1]; · iexact H1
    isplitl [H2] <;> iassumption

end Cert.Rs
-- ==== Proof.Deal.lean ====
/-
# What a device is dealt at the launch

The cells and duty tokens of all devices minted at once, dealt around so that every device holds the tokens of the duties it
pays; the credits for what it waits on; and all of it put together as what it holds before its first step.
-/
module

public import proofs.«01_k».proof.Proof.Data

@[expose] public section

noncomputable section

namespace Cert.Rs

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

open Idealize.ShloMosaic.Pipeline (Dat BodyObligation)

local notation "𝕄" => MT nD τ sig ℕ (Elt F) ℕ UU ℕ

variable (m : (ℓ : Loc nD τ sig) → Buf (Elt F) ℓ)

/-! ## Products over kinds and streams -/

/-- The product over the three kinds and two streams. -/
def every (Φ : Fin 3 → Fin 2 → sProp 𝕄) : sProp 𝕄 := bigSep Finset.univ fun k : Fin 3 => bigSep Finset.univ fun s : Fin 2 => Φ k s
omit [FloatOps F] in
theorem every_list (Φ : Fin 3 → Fin 2 → sProp 𝕄) : every Φ = iprop((Φ 0 0 ∗ Φ 0 1) ∗ (Φ 1 0 ∗ Φ 1 1) ∗ (Φ 2 0 ∗ Φ 2 1)) := by
  unfold every; rw [bs_fin3, bs_fin2, bs_fin2, bs_fin2]
omit [FloatOps F] in
theorem every_sep (Φ Ψ : Fin 3 → Fin 2 → sProp 𝕄) : every (fun k s => iprop(Φ k s ∗ Ψ k s)) = iprop(every Φ ∗ every Ψ) := by
  unfold every; simp only [bigSep_sep']
omit [FloatOps F] in
theorem every_congr {Φ Ψ : Fin 3 → Fin 2 → sProp 𝕄} (h : ∀ k s, Φ k s = Ψ k s) : every Φ = every Ψ := by
  unfold every; simp only [h]
omit [FloatOps F] in
/-- A product over devices of such products may be rearranged kind by kind and stream by stream. -/
theorem every_around {A B : Fin 3 → Fin 2 → Dev nD → sProp 𝕄} (h : ∀ k s, bigSep Finset.univ (A k s) = bigSep Finset.univ (B k s)) :
    bigSep Finset.univ (fun c => every fun k s => A k s c) = bigSep Finset.univ fun c => every fun k s => B k s c := by
  have h' : ∀ k s, bigSep Finset.univ (fun c => A k s c) = bigSep Finset.univ fun c => B k s c := h
  simp only [every_list, bigSep_sep', h']

/-! ## Cells and tokens minted -/

theorem kcell_injective : Function.Injective (kcell : Dev nD × Fin 29 → GSem nD τ sig) := by
  rintro ⟨c, j⟩ ⟨c', j'⟩ h
  have h1 : c = c' := congrArg (fun g : GSem nD τ sig => g.1.1) h
  have h2 : csem j = csem j' := congrArg Prod.snd h
  have h3 : ∀ j j' : Fin 29, csem j = csem j' → j = j' := by decide
  rw [h1, h3 j j' h2]
def cellSet : Finset (GSem nD τ sig) := Finset.univ.map ⟨kcell, kcell_injective⟩

/-- The duties of one device's own cells: two of its barrier, eight of every departure cell, and of the arrival cells one for every block. -/
abbrev Duty : Type := Fin 2 ⊕ (Fin 3 × Fin 2 × Fin 8) ⊕ (Fin 3 × Fin 2 × Fin 8)
def tokOf (x : Dev nD × Duty) : GSem nD τ sig × ℕ × Fin 2 := match x.2 with
  | .inl d => (bcell x.1, 0, d)
  | .inr (.inl (k, s, u)) => (scell k s x.1, u.val, 0)
  | .inr (.inr (k, s, u)) => (rcell k u.val s x.1, u.val / md k, 0)

theorem tokOf_dev (x : Dev nD × Duty) : (tokOf x).1.1.1 = x.1 := by
  obtain ⟨c, d | ⟨k, s, u⟩ | ⟨k, s, u⟩⟩ := x <;> rfl

theorem tokOf_injective : Function.Injective (tokOf : Dev nD × Duty → GSem nD τ sig × ℕ × Fin 2) := by
  intro x y h
  have hc : x.1 = y.1 := by rw [← tokOf_dev x, ← tokOf_dev y, h]
  obtain ⟨c, x⟩ := x
  obtain ⟨c', y⟩ := y
  obtain rfl : c = c' := hc
  have hq : (tokOf (c, x)).1.2 = (tokOf (c, y)).1.2 := congrArg (fun g : GSem nD τ sig × ℕ × Fin 2 => g.1.2) h
  have hr : (tokOf (c, x)).2.1 = (tokOf (c, y)).2.1 := congrArg (fun g : GSem nD τ sig × ℕ × Fin 2 => g.2.1) h
  have hd : (tokOf (c, x)).2.2 = (tokOf (c, y)).2.2 := congrArg (fun g : GSem nD τ sig × ℕ × Fin 2 => g.2.2) h
  rcases x with d | ⟨k, s, u⟩ | ⟨k, s, u⟩ <;> rcases y with d' | ⟨k', s', u'⟩ | ⟨k', s', u'⟩
  · obtain rfl : d = d' := hd; rfl
  · exact absurd hq (fun h => by cases h)
  · exact absurd hq (fun h => by cases h)
  · exact absurd hq (fun h => by cases h)
  · have hs : sS k s = sS k' s' := SemLoc.dma.inj hq
    obtain rfl : k = k' := by rw [← dk_sS k s, ← dk_sS k' s', hs]
    obtain rfl : s = s' := by rw [← ds_sS k s, ← ds_sS k s', hs]
    obtain rfl : u = u' := Fin.ext hr
    rfl
  · have hs : sS k s = rS k' u'.val s' := SemLoc.dma.inj hq
    have h1 := sS_val_lt k s
    have h2 := (rS_dec' k' u'.val s').1
    rw [hs] at h1; omega
  · exact absurd hq (fun h => by cases h)
  · have hs : rS k u.val s = sS k' s' := SemLoc.dma.inj hq
    have h1 := sS_val_lt k' s'
    have h2 := (rS_dec' k u.val s).1
    rw [← hs] at h1; omega
  · have hs : rS k u.val s = rS k' u'.val s' := SemLoc.dma.inj hq
    obtain ⟨-, a1, a2, a3⟩ := rS_dec' k u.val s
    obtain ⟨-, b1, b2, b3⟩ := rS_dec' k' u'.val s'
    obtain rfl : k = k' := by rw [← a1, ← b1, hs]
    obtain rfl : s = s' := by rw [← a2, ← b2, hs]
    have h3 : u.val % md k = u'.val % md k := by rw [← a3, ← b3, hs]
    have h4 : u.val / md k = u'.val / md k := hr
    obtain rfl : u = u' := Fin.ext (by rw [← Nat.mod_add_div u.val (md k), ← Nat.mod_add_div u'.val (md k), h3, h4])
    rfl
def tokSet : Finset (GSem nD τ sig × ℕ × Fin 2) := Finset.univ.map ⟨tokOf, tokOf_injective⟩

/-- The duty tokens of device `c`'s own cells. -/
def toks (c : Dev nD) : sProp 𝕄 :=
  iprop((dutyTok ER (bcell c) 0 0 ∗ dutyTok ER (bcell c) 0 1)
    ∗ (every fun k s => bigSep (Finset.Ico 0 8) fun u => dutyTok ER (scell k s c) u 0)
    ∗ every fun k s => bigSep (Finset.Ico 0 8) fun u => dutyTok ER (rcell k u s c) (u / md k) 0)
/-- Device `c`'s places at the start. -/
def places (c : Dev nD) : sProp 𝕄 := bigSep Finset.univ fun j : Fin 29 => atPos ER (kcell (c, j)) 0 ∅ 0

def G₀ (c : Dev nD) : sProp 𝕄 :=
  iprop((bigSep Finset.univ fun j : Fin 29 => roundState ER (Rd m) (kcell (c, j)) 0)
    ∗ (places c ∗ bigSep Finset.univ fun j : Fin 29 => reached ER (kcell (c, j)) 0) ∗ toks c)

omit [FloatOps F] in
theorem toks_eq (c : Dev nD) : (bigSep Finset.univ fun d : Duty => (dutyTok ER (tokOf (c, d)).1 (tokOf (c, d)).2.1 (tokOf (c, d)).2.2 : sProp 𝕄)) = toks c := by
  rw [BI.bigSep_univ_sum, BI.bigSep_univ_sum, bs_fin2, bigSep_univ_prod, bigSep_univ_prod]
  simp only [bigSep_univ_prod]
  unfold toks every
  simp only [← bs_fin 8]
  rfl

theorem fund : BI.own (ER (initOf cellSet tokSet)) ⊢ (|==> bigSep Finset.univ (G₀ m) : sProp 𝕄) := by
  have hX (Φ : GSem nD τ sig → sProp 𝕄) : bigSep cellSet Φ = bigSep Finset.univ fun c : Dev nD => bigSep Finset.univ fun j : Fin 29 => Φ (kcell (c, j)) := by
    unfold cellSet; rw [bigSep_map, bigSep_univ_prod]; rfl
  have hT : bigSep tokSet (fun x => (dutyTok ER x.1 x.2.1 x.2.2 : sProp 𝕄)) = bigSep Finset.univ fun c : Dev nD => toks c := by
    unfold tokSet; rw [bigSep_map, bigSep_univ_prod]
    exact bigSep_congr fun c _ => toks_eq c
  iintro HX
  imod (Rounds.fund ER (Rd m) cellSet tokSet) $$ HX with ⟨Hst, Hr, Hat, Htok⟩
  imodintro
  ihave Hst := (Entails.of_eq (hX fun g => roundState ER (Rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G₀ places; simp only [bigSep_sep']
  isplitl [Hst]; · iexact Hst
  isplitl [Hat Hr]
  · isplitl [Hat] <;> iassumption
  iexact Htok

/-! ## Dealt around -/

omit [FloatOps F] in
/-- A product over a device's cells: its own semaphores', and its barrier's. -/
theorem cells_split (Φ : SemLoc sig → sProp 𝕄) : bigSep Finset.univ (fun j : Fin 29 => Φ (csem j)) = iprop(Φ (.reg barS) ∗ sends Φ ∗ arrivals Φ) := by
  have hn : Fin.last 28 ∉ (Finset.univ : Finset (Fin 28)).map Fin.castSuccEmb := by decide
  rw [Fin.univ_castSuccEmb, Finset.cons_eq_insert, bigSep_insert hn, bigSep_map, ← sems_split]
  congr 1

/-- What stays with device `c`: its places, and the tokens of the duties it pays. -/
def linear (c : Dev nD) : sProp 𝕄 :=
  iprop((atPos ER (bcell c) 0 ∅ 0 ∗ dutyTok ER (bcell (nb 0 c)) 0 1 ∗ dutyTok ER (bcell (nb 1 c)) 0 0)
    ∗ (every fun k s => iprop(atPos ER (scell k s c) 0 ∅ 0 ∗ bigSep (Finset.Ico 0 8) fun u => dutyTok ER (scell k s c) u 0))
    ∗ every fun k s => iprop(POS k s 0 c ∗ TOK k s 0 c))

omit [FloatOps F] in
theorem places_eq (c : Dev nD) : places (F := F) c = iprop(atPos ER (bcell c) 0 ∅ 0 ∗ (every fun k s => atPos ER (scell k s c) 0 ∅ 0) ∗ every fun k s => POS k s 0 c) := by
  have hA : arrivals (fun q => (atPos ER ((c : Thread nD τ), q) 0 ∅ 0 : sProp 𝕄)) = every fun k s => POS k s 0 c := by
    unfold arrivals every
    refine bigSep_congr fun k _ => bigSep_congr fun s _ => ?_
    unfold POS
    dsimp only
    rw [Nat.zero_add]
    exact bigSep_congr fun u hu => by rw [Nat.div_eq_of_lt (Finset.mem_Ico.mp hu).2]
  unfold places
  rw [← hA]
  exact cells_split fun q => atPos ER ((c : Thread nD τ), q) 0 ∅ 0

/-- The device a transfer reaches, as a rearrangement of the devices; -/
def dstE (k : Fin 3) (s : Fin 2) : Dev nD ≃ Dev nD := ⟨dst k s, fr k s, fr_dst k s, dst_fr k s⟩
/-- and the neighbour. -/
def nbE (s : Fin 2) : Dev nD ≃ Dev nD := ⟨nb s, nb (1 - s), nb_nb s, nb_nb' s⟩

omit [FloatOps F] in
theorem deal : iprop((bigSep Finset.univ fun c : Dev nD => places (F := F) c) ∗ bigSep Finset.univ fun c : Dev nD => toks c) ⊢ bigSep Finset.univ fun c : Dev nD => linear c := by
  have hb (s d : Fin 2) : (bigSep Finset.univ fun c : Dev nD => (dutyTok ER (bcell c) 0 d : sProp 𝕄)) = bigSep Finset.univ fun c : Dev nD => dutyTok ER (bcell (nb s c)) 0 d :=
    bigSep_univ_equiv (nbE s) _
  have hr : (bigSep Finset.univ fun c : Dev nD => every fun k s => bigSep (Finset.Ico 0 8) fun u => (dutyTok ER (rcell k u s c) (u / md k) 0 : sProp 𝕄))
      = bigSep Finset.univ fun c : Dev nD => every fun k s => TOK k s 0 c :=
    every_around fun k s => bigSep_univ_equiv (dstE k s) (fun c : Dev nD => bigSep (Finset.Ico 0 8) fun u => (dutyTok ER (rcell k u s c) (u / md k) 0 : sProp 𝕄))
  simp only [places_eq]
  unfold toks linear
  simp only [every_sep, bigSep_sep', hr]
  rw [hb 1 0, hb 0 1]
  iintro ⟨⟨A, B, C⟩, ⟨D, E⟩, G, H⟩
  isplitl [A D E]
  · isplitl [A]; · iexact A
    isplitl [E] <;> iassumption
  isplitl [B G]
  · isplitl [B] <;> iassumption
  · isplitl [C] <;> iassumption

/-- What the global step leaves each device. -/
def G₁ (c : Dev nD) : sProp 𝕄 := iprop(∃ K, records m K ∗ linear c)

theorem core_alloc (c : Dev nD) :
    iprop(Pipeline.ownSems0 (Ix := ℕ) (Name := ℕ) (U := UU) (Lvl := ℕ) (Val := Elt F) (τ := τ) osem c ∗ unscopedSems0 c ∗ G₀ m c)
      ⊢ |={Set.univ}=> iprop((bigSep Finset.univ fun j : Fin 29 => iprop(∃ κ : ℕ, cellInv ER (Rd m) κ (kcell (c, j))))
          ∗ (bigSep Finset.univ fun j : Fin 29 => reached ER (kcell (c, j)) 0) ∗ places c ∗ toks c) := by
  have hv : (bigSep Finset.univ fun j : Fin 29 => (semVal (kcell (c, j)) 0 : sProp 𝕄)) = iprop(unscopedSems0 c ∗ Pipeline.ownSems0 osem c) := by
    rw [bar_split, own_split]; exact cells_split fun q => semVal ((c : Thread nD τ), q) 0
  unfold G₀
  iintro ⟨Hos, Hus, Hst, ⟨Hat, Hr⟩, Htok⟩
  imod (show iprop((unscopedSems0 c ∗ Pipeline.ownSems0 osem c) ∗ bigSep Finset.univ fun j : Fin 29 => roundState ER (Rd m) (kcell (c, j)) 0)
      ⊢ (|={Set.univ}=> bigSep Finset.univ fun j : Fin 29 => iprop(∃ κ : ℕ, cellInv ER (Rd m) κ (kcell (c, j))) : sProp 𝕄) from by
        rw [← hv, ← bigSep_sep']
        exact (bigSep_mono fun j _ => (Rounds.body_intro ER (Rd m) (kcell (c, j))).trans inv_alloc).trans (bigSep_fupd _ _)) $$ [Hos Hus Hst] with Hinv
  · isplitr [Hst]
    · isplitl [Hus] <;> iassumption
    iexact Hst
  imodintro
  isplitl [Hinv]; · iexact Hinv
  isplitl [Hr]; · iexact Hr
  isplitl [Hat] <;> iassumption

theorem regroup :
    (bigSep Finset.univ fun c : Dev nD => iprop((bigSep Finset.univ fun j : Fin 29 => iprop(∃ κ : ℕ, cellInv ER (Rd m) κ (kcell (c, j))))
          ∗ (bigSep Finset.univ fun j : Fin 29 => reached ER (kcell (c, j)) 0) ∗ places c ∗ toks c) : sProp 𝕄)
      ⊢ bigSep Finset.univ (G₁ m) := by
  rw [bigSep_sep', bigSep_sep', bigSep_sep', ← bigSep_univ_prod (fun cj : Dev nD × Fin 29 => iprop(∃ κ : ℕ, cellInv ER (Rd m) κ (kcell cj))),
    ← bigSep_univ_prod (fun cj : Dev nD × Fin 29 => (reached ER (kcell cj) 0 : sProp 𝕄))]
  iintro ⟨HI, #HR, Hd⟩
  ihave HK := (BI.bigSep_exists_pi Finset.univ (fun (cj : Dev nD × Fin 29) (κ : ℕ) => (cellInv ER (Rd m) κ (kcell cj) : sProp 𝕄))) $$ HI
  icases HK with ⟨%K, #HI⟩
  ihave Hl := (deal (F := F)) $$ Hd
  iapply (bigSep_with_persistent (R := records m K) (Φ := fun c => linear c) fun c _ => show iprop(records m K ∗ linear c) ⊢ G₁ m c from by
    unfold G₁; iintro H; iexists K; iexact H)
  isplitr
  · unfold records; isplitl; · iexact HI
    iexact HR
  · iexact Hl

theorem glob : (bigSep Finset.univ fun c => iprop(Pipeline.ownSems0 (Ix := ℕ) (Name := ℕ) (U := UU) (Lvl := ℕ) (Val := Elt F) (τ := τ) osem c ∗ unscopedSems0 c ∗ G₀ m c) : sProp 𝕄)
    ⊢ |={Set.univ}=> bigSep Finset.univ (G₁ m) :=
  ((bigSep_mono fun c _ => core_alloc m c).trans (bigSep_fupd _ _)).trans (BI.fupd_mono (regroup m))

/-! ## The credits -/

omit [FloatOps F] in
theorem cred_due (k : Fin 3) (u : ℕ) (s : Fin 2) (c : Dev nD) : (Pipeline.launchCred (fun d => due d k u s) c : sProp 𝕄) ⊢ cred (tallyAt (rcell k u s c) u N) :=
  Pipeline.launchCred_tallyAt (.dma (rS k u s)) (dst k s) (fr k s) (dst_fr k s) (fr_dst k s) u N c
omit [FloatOps F] in
theorem cred_bar (s : Fin 2) (c : Dev nD) : (Pipeline.launchCred (fun d => (tallyAt (bcell (nb s d)) 0 1 : CellTallies nD τ sig ℕ)) c : sProp 𝕄) ⊢ cred (tallyAt (bcell c) 0 1) :=
  Pipeline.launchCred_tallyAt (.reg barS) (nb s) (nb (1 - s)) (nb_nb' s) (nb_nb s) 0 1 c

omit [FloatOps F] in
/-- What all devices owe a device at the start, as credit it holds. -/
theorem creds (c : Dev nD) : (Pipeline.launchCred owed₀ c : sProp 𝕄) ⊢ iprop(cred (tallyAt (bcell c) 0 2) ∗ every fun k s => CR k s 0 c) := by
  have h0 : owed₀ = fun d => ((∑ u ∈ Finset.Ico 0 8, (due d 1 u 1 + due d 0 u 1 + due d 1 u 0 + due d 0 u 0)) + ∑ u ∈ Finset.Ico 0 8, (due d 2 u 1 + due d 2 u 0))
      + tallyAt (bcell (nb 1 d)) 0 1 + tallyAt (bcell (nb 0 d)) 0 1 := rfl
  rw [h0, Pipeline.launchCred_add, Pipeline.launchCred_add, Pipeline.launchCred_add, Pipeline.launchCred_sum, Pipeline.launchCred_sum]
  simp only [Pipeline.launchCred_add, bigSep_sep', every_list]
  have hc (k : Fin 3) (s : Fin 2) : (bigSep (Finset.Ico 0 8) fun u => (Pipeline.launchCred (fun d => due d k u s) c : sProp 𝕄)) ⊢ CR k s 0 c :=
    bigSep_mono fun u _ => cred_due k u s c
  have e2 : (tallyAt (bcell c) 0 2 : CellTallies nD τ sig ℕ) = tallyAt (bcell c) 0 1 + tallyAt (bcell c) 0 1 := (tallyAt_add _ _ 1 1).symm
  rw [e2]
  iintro ⟨⟨⟨⟨⟨⟨A, B⟩, C⟩, D⟩, E, G⟩, H⟩, I⟩
  isplitl [H I]
  · iapply (cred_add _ _).2
    isplitl [H]
    · iapply (cred_bar 1 c) $$ H
    · iapply (cred_bar 0 c) $$ I
  isplitl [B D]
  · isplitl [D]
    · iapply (hc 0 0) $$ D
    · iapply (hc 0 1) $$ B
  isplitl [A C]
  · isplitl [C]
    · iapply (hc 1 0) $$ C
    · iapply (hc 1 1) $$ A
  isplitl [G]
  · iapply (hc 2 0) $$ G
  · iapply (hc 2 1) $$ E

end Cert.Rs
-- ==== Proof.Run.lean ====
/-
# The run

The launch's conditions, and the run of the program for any float values: every result array at what the blocks' closed forms say,
both arguments unchanged, every counter at zero.
-/
module

public import proofs.«01_k».proof.Proof.Deal
public import Idealize.ShloMosaic.Lib.Pipeline.CollectiveSegs

@[expose] public section

noncomputable section

namespace Cert.Rs

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

open Idealize.ShloMosaic.Pipeline (Dat BodyObligation)

local notation "𝕄" => MT nD τ sig ℕ (Elt F) ℕ UU ℕ

variable (m : (ℓ : Loc nD τ sig) → Buf (Elt F) ℓ) (ρ : Dev nD → PrngReg)

theorem ownSemFacts : Pipeline.OwnSemFacts cfg0.spec osem := by decide

theorem share_eq (c : Dev nD) (w : Fin cfg0.W) : (dats m 0 c).share w = fullShare := by unfold Dat.share; split <;> rfl

/-- The ghost state at the launch: the pipeline's, and the exchange's. -/
def u₀ : UU := (initOf (Pipeline.cells cfgs cellOf_inj) (Pipeline.launchToks cfgs cellOf_inj), initOf cellSet tokSet)

/-- What a device starts with, besides its buffers. -/
def start (c : Dev nD) : sProp 𝕄 := iprop(G₁ m c ∗ (cred (tallyAt (bcell c) 0 2) ∗ every fun k s => CR k s 0 c) ∗ levAts L lv)

theorem start_intro (c : Dev nD) :
    iprop(Pipeline.unscopedRestP Pipeline.Prefetch.none cfg0.spec c (fun b => m ((c : Thread nD τ).loc b)) ∗ levAts L lv
        ∗ Pipeline.launchCred owed₀ c ∗ prngReg c (ρ c) ∗ G₁ m c)
      ⊢ |={Set.univ}=> iprop(start m c ∗ emp) := by
  iintro ⟨-, Hlev, Hcr, -, HG⟩
  ihave Hc := (creds (F := F) c) $$ Hcr
  imodintro
  unfold start
  isplitl
  · isplitl [HG]; · iexact HG
    isplitl [Hc] <;> iassumption
  · iempintro

/-- A landing buffer's slots, with the records, are leaves to write it in its first round. -/
theorem mine_intro (K : Dev nD × Fin 29 → ℕ) (c : Dev nD) (k : Fin 3) (s : Fin 2) : iprop(ctx m K ∗ slots c k s 0) ⊢ MINE k s 0 (md k) c := by
  unfold slots MINE
  rw [Nat.zero_add]
  refine bigSep_with_persistent (R := ctx m K) fun u hu => ?_
  show iprop(ctx m K ∗ anyAt c (rslot k u s)) ⊢ permit k u s c
  unfold permit ctx
  rw [Nat.div_eq_of_lt (Finset.mem_Ico.mp hu).2]
  iintro ⟨⟨#HR, -⟩, H⟩
  isplitl [H]; · iexact H
  iapply (reached_at m K c (jR k u s) (kcell_R k u s c)); iexact HR

/-- A stream before its first departure. -/
theorem snd_intro (K : Dev nD × Fin 29 → ℕ) (c : Dev nD) (k : Fin 3) (s : Fin 2) :
    iprop(ctx m K ∗ (atPos ER (scell k s c) 0 ∅ 0 ∗ bigSep (Finset.Ico 0 8) fun u => dutyTok ER (scell k s c) u 0) ∗ anyAt c (src3 k s)) ⊢ sndI k s 0 c := by
  unfold sndI sndC ctx
  iintro ⟨⟨#HR, -⟩, ⟨A, B⟩, H⟩
  isplitr [H]
  · isplitl [A]; · iexact A
    isplitr; · iapply (reached_at m K c (jS k s) (kcell_S k s c)); iexact HR
    iexact B
  iexact H

set_option maxHeartbeats 1600000 in
theorem held_intro (K : Dev nD × Fin 29 → ℕ) (c : Dev nD) :
    iprop((records m K ∗ linear c) ∗ (cred (tallyAt (bcell c) 0 2) ∗ every fun k s => CR k s 0 c) ∗ levAts L lv ∗ Pipeline.scopedRest spec0 c) ⊢ Held m K 0 c := by
  have hB : Bar (F := F) 0 c = Bar0 c := if_pos rfl
  have hS (k : Fin 3) (s : Fin 2) : SND (F := F) k s 0 c = sndI k s 0 c := SND_idle (by decide) c
  have hS' (k : Fin 3) (s : Fin 2) : SND (F := F) k s (0 - 1) c = sndI k s 0 c := SND_idle (by decide) c
  have hK : Kept m 0 c = Any01 c := if_neg (by decide)
  have hC : Cpr (F := F) 0 c = iprop(emp) := if_neg (by decide)
  have hO : Own m 0 c = anyAt c (ownP 0) := if_neg (by decide)
  have hO' : Own m (0 + 1) c = anyAt c (ownP 1) := if_neg (by decide)
  have hm (k : Fin 3) (s : Fin 2) := mine_intro m K c k s
  have hs (k : Fin 3) (s : Fin 2) := snd_intro m K c k s
  unfold Held Snd01 Snd2 Tok01 Rel Arr Mine1 Mine02 linear Any01 at *
  rw [hB, hS, hS, hS, hS, hS', hS', hK, hC, hO, hO', rest_cut, every_list, every_list, every_list]
  unfold Bar0
  iintro ⟨⟨#HR, ⟨HB, HB0, HB1⟩, ⟨⟨S00, S01⟩, ⟨S10, S11⟩, S20, S21⟩, ⟨⟨P00, T00⟩, P01, T01⟩, ⟨⟨P10, T10⟩, P11, T11⟩, ⟨P20, T20⟩, P21, T21⟩,
    ⟨HBc, ⟨C00, C01⟩, ⟨C10, C11⟩, C20, C21⟩, #HL, ⟨⟨B00, K1⟩, K0, B01⟩, ⟨O0, O1⟩, ⟨B10, B11⟩, ⟨B20, B21⟩, ⟨M00, M01⟩, ⟨M10, M11⟩, M20, M21⟩
  ihave #HC : ctx m K $$ []
  · unfold ctx; isplitl; · iexact HR
    iexact HL
  ihave M00 := (hm 0 0) $$ [M00]
  · isplitr; · iexact HC
    iexact M00
  ihave M01 := (hm 0 1) $$ [M01]
  · isplitr; · iexact HC
    iexact M01
  ihave M10 := (hm 1 0) $$ [M10]
  · isplitr; · iexact HC
    iexact M10
  ihave M11 := (hm 1 1) $$ [M11]
  · isplitr; · iexact HC
    iexact M11
  ihave M20 := (hm 2 0) $$ [M20]
  · isplitr; · iexact HC
    iexact M20
  ihave M21 := (hm 2 1) $$ [M21]
  · isplitr; · iexact HC
    iexact M21
  ihave S00 := (hs 0 0) $$ [S00 B00]
  · isplitr; · iexact HC
    isplitl [S00] <;> iassumption
  ihave S01 := (hs 0 1) $$ [S01 B01]
  · isplitr; · iexact HC
    isplitl [S01] <;> iassumption
  ihave S10 := (hs 1 0) $$ [S10 B10]
  · isplitr; · iexact HC
    isplitl [S10] <;> iassumption
  ihave S11 := (hs 1 1) $$ [S11 B11]
  · isplitr; · iexact HC
    isplitl [S11] <;> iassumption
  ihave S20 := (hs 2 0) $$ [S20 B20]
  · isplitr; · iexact HC
    isplitl [S20] <;> iassumption
  ihave S21 := (hs 2 1) $$ [S21 B21]
  · isplitr; · iexact HC
    isplitl [S21] <;> iassumption
  isplitr; · iexact HC
  isplitl [HB HB0 HB1 HBc]
  · isplitl [HB]; · iexact HB
    isplitl [HBc]; · iexact HBc
    isplitl [HB0] <;> iassumption
  isplitl [M10 M11]
  · isplitl [M10]; · iexact M10
    iexact M11
  isplitl [M00 M01 M20 M21]
  · isplitl [M00 M20]
    · isplitl [M00]; · iexact M00
      iexact M20
    · isplitl [M01]; · iexact M01
      iexact M21
  isplitl [S00 S01 S10 S11]
  · isplitl [S00]; · iexact S00
    isplitl [S10]; · iexact S10
    isplitl [S01] <;> iassumption
  isplitl [S20 S21]
  · isplitl [S20] <;> iassumption
  isplitl [T00 T01 T10 T11]
  · isplitl [T00]; · iexact T00
    isplitl [T10]; · iexact T10
    isplitl [T01]; · iexact T01
    iexact T11
  isplitl [T20 T21 P10 P11 C10 C11]
  · isplitl [T20 P10 C10]
    · isplitl [T20]; · iexact T20
      isplitl [P10]; · iexact P10
      iexact C10
    · isplitl [T21]; · iexact T21
      isplitl [P11]; · iexact P11
      iexact C11
  isplitl [P00 P01 P20 P21 C00 C01 C20 C21]
  · isplitl [P00 P20 C00 C20]
    · isplitl [P00]; · iexact P00
      isplitl [C00]; · iexact C00
      isplitl [P20]; · iexact P20
      iexact C20
    · isplitl [P01]; · iexact P01
      isplitl [C01]; · iexact C01
      isplitl [P21]; · iexact P21
      iexact C21
  isplitr; · iempintro
  isplitl [K0 K1]
  · isplitl [K0] <;> iassumption
  isplitl [O0] <;> iassumption

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  show _ ⊢ Phi m 0 c
  rw [show Phi m 0 c = iprop(∃ K, Held m K 0 c) from if_pos (by decide)]
  unfold start G₁
  iintro ⟨⟨⟨%K, HG⟩, Hc, Hl⟩, -, Hr⟩
  iexists K
  iapply (held_intro m K c)
  isplitl [HG]; · iexact HG
  isplitl [Hc]; · iexact Hc
  isplitl [Hl] <;> iassumption

theorem phi1_exit (c : Dev nD) :
    (dats m 0 c).Φ (Fin.last cfg0.N) ⊢ iprop(unscopedSems0 c ∗ Pipeline.ownSems0 osem c ∗ Pipeline.scopedRest cfg0.spec c) := by
  show Phi m cfg0.N c ⊢ _
  rw [show Phi m cfg0.N c = Closed c from if_neg (by decide)]
  exact Entails.of_eq rfl

theorem above_owedAt (c : Dev nD) (n : ℕ) : Above 0 (owedAt c n) := by
  unfold owedAt
  split
  · exact above_owed₀ c
  · exact (above_owed c n).mono (Nat.zero_le _)

theorem waits (c : Dev nD) : (levAts L lv : sProp 𝕄) ⊢ Pipeline.cellsWaits cfgs (dats m) 0 0 c :=
  Pipeline.cellsWaits_intro cfgs (dats m) 0 0 c fun w s t =>
    mayWait_of_above (by decide) (by
      rw [show lv ((c : Thread nD τ), SemLoc.dma (((cfgs 0).win w).sem s)) 0 = 0 from by fin_cases w <;> fin_cases s <;> rfl]
      exact above_owedAt c t.val)

/-! ## The run -/

/-- An array after the run. -/
def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- For any float values, from any memory with zero counters: every weakly fair execution of the four devices terminates, leaving
    every array as the pipeline's data say and every counter at zero. -/
theorem run_main : θ_run defs (onTc (τ := τ) (main (F := F))) ⟨m, fun _ => 0, ρ⟩ (fun r => QC m r ∧ r.2.sem = fun _ => 0) :=
  Pipeline.θ_run_region_owing_glob_pf (fun p => (cfgs p).toPCfg) (fun p => (cfgs p).toPCfg_adm) (dats m) 0 cellOf_inj (0 : Fin 1)
    winFacts0.to₀ ownSemFacts (Pipeline.PreFacts.none _) EP defs₀ Variants.none m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := owed₀) (howed₀ := fun _ => rfl) (howedN := fun c => owed_end c)
    (L := L) (lv := lv) (hL := L_of_ne) (hwaits := waits m)
    (G := G₀ m) (G' := G₁ m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- Both arguments hold what they held. -/
theorem final_x (c : Dev nD) : finalA m c (0 : Fin 4) = m ((c : Thread nD τ).loc main_arg0) := (dats m 0 c).arrAt_in (0 : Fin 4) rfl _
theorem final_w (c : Dev nD) : finalA m c (1 : Fin 4) = m ((c : Thread nD τ).loc main_arg1) := (dats m 0 c).arrAt_in (1 : Fin 4) rfl _

end Cert.Rs
-- ==== Proof.Frames.lean ====
/-
# The frames

The kernel's run at both instances, and the reference's, read at the arguments and the counters.
-/
module

public import proofs.«01_k».proof.Defs
public import proofs.«01_k».proof.Proof.Gen.Kernel
public import proofs.«01_k».proof.Proof.Gen.ReferenceIdeal.Run
public import proofs.«01_k».proof.Proof.Run
public import Idealize.ShloMosaic.Lib.Quiescent

@[expose] public section

noncomputable section

namespace Cert.Rs

open Idealize.ShloMosaic Idealize.SL.Sem
open Idealize.ShloMosaic.TcCoe

open Cert.KernelIdeal in
/-- For any float values the kernel terminates on every device, its arguments unchanged, every counter at zero. -/
theorem frame_any {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono
    (fun _ h => ⟨fun c => ⟨(h.1 c (0 : Fin 4)).trans (final_x m c), (h.1 c (1 : Fin 4)).trans (final_w m c)⟩, h.2⟩)
    (run_main m ρ)

/-- The two prints have the same body table, -/
theorem defs₀_eq {F : FTy → Type} [FloatOps F] : Cert.Kernel.defs₀ (F := F) = Cert.KernelIdeal.defs₀ (F := F) := by
  refine congrArg Defs.onTc (funext fun ℓ => funext fun p => ?_)
  match ℓ with
  | 0 => rfl
/-- and the same table with the pipeline's entries. -/
theorem defs_eq {F : FTy → Type} [FloatOps F] : Cert.Kernel.defs (F := F) = Cert.KernelIdeal.defs (F := F) :=
  congrArg (Pipeline.defs Cert.Kernel.pcfgs) defs₀_eq

/-- The kernel as printed runs so at bits, -/
theorem frame_kernel : Cert.quiescent_Kernel := by
  intro m ρ _
  rw [defs_eq]
  exact frame_any (F := Bits) m ρ

/-- and over the extended reals. -/
theorem frame_ideal : Cert.quiescent_KernelIdeal := fun m ρ _ => frame_any (F := Ideal) m ρ

/-- So does the reference. -/
theorem frame_reference : Cert.quiescent_ReferenceIdeal := fun m ρ _ =>
  (θ_run Cert.ReferenceIdeal.defs _ _).mono
    (fun r h => ⟨fun c => (h c).2.2, sem_eq_zero_of_no_sems (by decide) r.2⟩)
    (Cert.ReferenceIdeal.Value.run (F := Ideal) m ρ)

end Cert.Rs
-- ==== Proof.Blocks.lean ====
/-
# What the blocks are, over the extended reals

Every block the kernel computes or carries, read at a row and a column: one device's partial product, the sums of them that travel,
and the rectified sum of the four devices' products.
-/
module

public import proofs.«01_k».proof.Proof.Proto
public import Idealize.ShloMosaic.PureOps.Ideal.Laws
public import Idealize.ShloMosaic.Lib.ValueIdx
public import Idealize.ShloMosaic.Lib.ValueLayout
public import Idealize.ShloMosaic.Lib.MatmulPlain

@[expose] public section

noncomputable section

namespace Cert.Rs

open Cert.KernelIdeal Cert.KernelIdeal.Gen
open Idealize.ShloMosaic Idealize.ShloMosaic.TcCoe Idealize.ShloMosaic.ValueIdx
open scoped BigOperators

variable (m : (ℓ : Loc nD τ sig) → Buf (Elt Ideal) ℓ)

/-! ## Shapes at coordinates -/

theorem dotA_eq : dot_S1024x1024_S1024x1024_S1024x1024_1_0_0_1_n_n = DotDims.plain 1024 1024 1024 := rfl
theorem dotB_eq : dot_S1024x1024_S1024x512_S1024x512_1_0_0_1_n_n = DotDims.plain 1024 1024 512 := rfl

/-- Column `q` of half `h`, among the block's columns. -/
def hc (h : Fin 2) (q : Fin 512) : Fin 1024 := ⟨512 * h.val + q.val, by have := h.isLt; have := q.isLt; omega⟩

theorem half_val {α : Type} (h : Fin 2) (Y : S1x1024x1024.Idx → α) (r : Fin 1024) (q : Fin 512) :
    half h Y (ix3 (0 : Fin 1) r q) = Y (ix3 (0 : Fin 1) r (hc h q)) := by
  unfold half
  refine congrArg Y (funext fun a => Fin.ext ?_)
  rw [Rect.emb_apply]
  match a with
  | ⟨0, _⟩ => rfl
  | ⟨1, _⟩ => show 0 + 1 * r.val = r.val; omega
  | ⟨2, _⟩ => show 512 * h.val + 1 * q.val = 512 * h.val + q.val; omega

theorem sq3_at {α : Type} (Y : S1x1024x512.Idx → α) (r : Fin 1024) (q : Fin 512) : sq3 Y (ix2 r q) = Y (ix3 (0 : Fin 1) r q) :=
  congrArg Y (reshapeEquiv_ix2_1ab _ r q)

theorem rc4_at {α : Type} (X : S1024x512.Idx → α) (r : Fin 1024) (q : Fin 512) :
    rc4 X (ix4 (0 : Fin 1) (0 : Fin 1) r q) = X (ix2 r q) :=
  congrArg X ((Equiv.symm_apply_eq _).mpr (reshapeEquiv_ix2_11ab _ r q).symm)

/-- A landed block, flattened. -/
theorem flat4 {α : Type} (X : S1x1x1024x512.Idx → α) (h : S1x1x1024x512.ShapeCasts S1024x512) (r : Fin 1024) (q : Fin 512) :
    shapeCast S1024x512 X h (ix2 r q) = X (ix4 (0 : Fin 1) (0 : Fin 1) r q) := congrArg X (reshapeEquiv_ix2_11ab _ r q)
theorem flat3 {α : Type} (X : S1x1024x512.Idx → α) (h : S1x1024x512.ShapeCasts S1024x512) (r : Fin 1024) (q : Fin 512) :
    shapeCast S1024x512 X h (ix2 r q) = X (ix3 (0 : Fin 1) r q) := congrArg X (reshapeEquiv_ix2_1ab _ r q)

/-! ## Products -/

/-- Row `r`, column `q` of device `d`'s partial product for device `c`'s rows and column block `u`. -/
def prod (d c : Dev nD) (u : ℕ) (r q : Fin 1024) : EReal := ∑ k : Fin 1024, xrow m d c (ix2 r k) * wblk m d u (ix2 k q)

theorem matA (l : FVec Ideal S1024x1024 .bf16) (w : FVec Ideal S1024x1024 .bf16) (r q : Fin 1024) :
    matmul dot_S1024x1024_S1024x1024_S1024x1024_1_0_0_1_n_n none l w (constant S1024x1024 .f32 0x00000000#32) (ix2 r q)
      = ∑ k : Fin 1024, l (ix2 r k) * w (ix2 k q) := by
  rw [dotA_eq]
  refine (Ideal.matmul_plain_apply none l w _ r q).trans ?_
  rw [constant_apply, Ideal.ofBits_zero_f32, zero_add]

theorem matB (l : FVec Ideal S1024x1024 .bf16) (w : FVec Ideal S1024x512 .bf16) (r : Fin 1024) (q : Fin 512) :
    matmul dot_S1024x1024_S1024x512_S1024x512_1_0_0_1_n_n none l w (constant S1024x512 .f32 0x00000000#32) (ix2 r q)
      = ∑ k : Fin 1024, l (ix2 r k) * w (ix2 k q) := by
  rw [dotB_eq]
  refine (Ideal.matmul_plain_apply none l w _ r q).trans ?_
  rw [constant_apply, Ideal.ofBits_zero_f32, zero_add]

theorem pay9_at (w x : FVec Ideal S1024x1024 .bf16) (r q : Fin 1024) :
    k0_pay9 w x (ix3 (0 : Fin 1) r q) = ∑ k : Fin 1024, x (ix2 r k) * w (ix2 k q) := by
  unfold k0_pay9 k0_pay8
  dsimp only
  rw [shapeCast_ab_1ab_apply, shapeCast_self, shapeCast_self]
  exact matA x w r q

theorem pay10_at (w x : FVec Ideal S1024x1024 .bf16) (r q : Fin 1024) :
    k0_pay10 w x (ix3 (0 : Fin 1) r q) = ∑ k : Fin 1024, x (ix2 r k) * w (ix2 k q) := by
  unfold k0_pay10 k0_pay8
  dsimp only
  rw [shapeCast_ab_1ab_apply, shapeCast_self, shapeCast_self]
  exact matA x w r q

theorem pay5_at (x w : FVec Ideal S1024x1024 .bf16) (r q : Fin 1024) :
    k0_pay5 x w (ix3 (0 : Fin 1) r q) = ∑ k : Fin 1024, x (ix2 r k) * w (ix2 k q) := by
  unfold k0_pay5
  rw [shapeCast_ab_1ab_apply, shapeCast_self, shapeCast_self]
  exact matA x w r q

theorem pay11_at (w x : FVec Ideal S1024x1024 .bf16) (r : Fin 1024) (q : Fin 512) :
    k0_pay11 (k0_pay8 w) x (ix3 (0 : Fin 1) r q) = ∑ k : Fin 1024, x (ix2 r k) * w (ix2 k (hc 0 q)) := by
  unfold k0_pay11 k0_pay8
  dsimp only
  rw [shapeCast_ab_1ab_apply, shapeCast_self, shapeCast_self]
  refine (matB x _ r q).trans (Finset.sum_congr rfl fun k _ => congrArg (x (ix2 r k) * ·) ?_)
  exact slice2_axis1_apply 0 w _ k q (hc 0 q) rfl

theorem pay16_at (w x : FVec Ideal S1024x1024 .bf16) (r : Fin 1024) (q : Fin 512) :
    k0_pay16 (k0_pay8 w) x (ix3 (0 : Fin 1) r q) = ∑ k : Fin 1024, x (ix2 r k) * w (ix2 k (hc 1 q)) := by
  unfold k0_pay16 k0_pay8
  dsimp only
  rw [shapeCast_ab_1ab_apply, shapeCast_self, shapeCast_self]
  refine (matB x _ r q).trans (Finset.sum_congr rfl fun k _ => congrArg (x (ix2 r k) * ·) ?_)
  exact slice2_axis1_apply 512 w _ k q (hc 1 q) rfl

theorem nbrM_at (c : Dev nD) (u : ℕ) (j : Fin 2) (r q : Fin 1024) : nbrM m c u j (ix3 (0 : Fin 1) r q) = prod m c (nb j c) u r q := by
  unfold nbrM prod
  match j with
  | 0 => exact pay9_at _ _ r q
  | 1 => exact pay10_at _ _ r q

theorem ownM_at (c : Dev nD) (u : ℕ) (r q : Fin 1024) : ownM m c u (ix3 (0 : Fin 1) r q) = prod m c c u r q := pay5_at _ _ r q

theorem oppM_at (c : Dev nD) (u : ℕ) (s : Fin 2) (r : Fin 1024) (q : Fin 512) :
    oppM m c u s (ix3 (0 : Fin 1) r q) = prod m c (opp c) u r (hc s q) := by
  unfold oppM prod
  match s with
  | 0 => exact pay11_at _ _ r q
  | 1 => exact pay16_at _ _ r q

/-! ## Sums that travel -/

theorem pay6_at (a : Vec Ideal S1x1024x512 .bf16) (b : Vec Ideal S1x1x1024x512 .bf16) (r : Fin 1024) (q : Fin 512) :
    (k0_pay6 a b (ix3 (0 : Fin 1) r q) : EReal) = (a (ix3 (0 : Fin 1) r q) : EReal) + b (ix4 (0 : Fin 1) (0 : Fin 1) r q) := by
  unfold k0_pay6
  rw [shapeCast_ab_1ab_apply, truncf_apply, addf_apply, extf_apply, extf_apply, flat3, flat4]

theorem pay7_at (a : Vec Ideal S1x1024x512 .bf16) (b : Vec Ideal S1x1x1024x512 .bf16) (r : Fin 1024) (q : Fin 512) :
    (k0_pay7 a b (ix3 (0 : Fin 1) r q) : EReal) = (a (ix3 (0 : Fin 1) r q) : EReal) + b (ix4 (0 : Fin 1) (0 : Fin 1) r q) := by
  unfold k0_pay7
  rw [shapeCast_ab_1ab_apply, truncf_apply, addf_apply, extf_apply, extf_apply, flat3, flat4]

theorem opp_nb : ∀ (s : Fin 2) (c : Dev nD), opp (nb s c) = nb (1 - s) c := by decide
theorem fr1_eq : ∀ (s : Fin 2) (c : Dev nD), fr 1 s c = nb s c := by decide
theorem fr0_eq : ∀ (s : Fin 2) (c : Dev nD), fr 0 s c = nb (1 - s) c := by decide
theorem fr2_eq : ∀ (s : Fin 2) (c : Dev nD), fr 2 s c = nb s c := by decide
theorem nb_twice : ∀ (s : Fin 2) (c : Dev nD), nb s (nb s c) = opp c := by decide

/-- The relayed block a device is handed, at coordinates. -/
theorem relay_at (c : Dev nD) (u : ℕ) (s : Fin 2) (r : Fin 1024) (q : Fin 512) :
    rc4 (sq3 (oppM m (fr 1 s c) u s)) (ix4 (0 : Fin 1) (0 : Fin 1) r q) = prod m (nb s c) (nb (1 - s) c) u r (hc s q) := by
  rw [rc4_at, sq3_at, oppM_at, fr1_eq, opp_nb]

theorem comM_at (c : Dev nD) (u : ℕ) (s : Fin 2) (r : Fin 1024) (q : Fin 512) :
    (comM m c u s (ix3 (0 : Fin 1) r q) : EReal)
      = prod m c (nb (1 - s) c) u r (hc s q) + prod m (nb s c) (nb (1 - s) c) u r (hc s q) := by
  unfold comM
  match s with
  | 0 =>
    refine (pay6_at _ _ r q).trans ?_
    rw [half_val, nbrM_at, relay_at]; rfl
  | 1 =>
    refine (pay7_at _ _ r q).trans ?_
    rw [half_val, nbrM_at, relay_at]; rfl

theorem got0_at (c : Dev nD) (u : ℕ) (s : Fin 2) (r : Fin 1024) (q : Fin 512) :
    (got m 0 u s c (ix4 (0 : Fin 1) (0 : Fin 1) r q) : EReal) = prod m (nb (1 - s) c) c u r (hc s q) := by
  show (rc4 (sq3 (half s (nbrM m (fr 0 s c) u s))) (ix4 (0 : Fin 1) (0 : Fin 1) r q) : EReal) = _
  rw [rc4_at, sq3_at, half_val, nbrM_at, fr0_eq, nb_nb']

theorem got2_at (c : Dev nD) (u : ℕ) (s : Fin 2) (r : Fin 1024) (q : Fin 512) :
    (got m 2 u s c (ix4 (0 : Fin 1) (0 : Fin 1) r q) : EReal) = prod m (nb s c) c u r (hc s q) + prod m (opp c) c u r (hc s q) := by
  show (rc4 (sq3 (comM m (fr 2 s c) u s)) (ix4 (0 : Fin 1) (0 : Fin 1) r q) : EReal) = _
  rw [rc4_at, sq3_at, comM_at, fr2_eq, nb_nb, nb_twice]

/-! ## The rectified sum -/

/-- The four devices' terms, in the order the kernel adds them. -/
theorem four (f : Dev nD → EReal) (s : Fin 2) (c : Dev nD) : f c + f (nb (1 - s) c) + (f (nb s c) + f (opp c)) = ∑ d, f d := by
  have h : ∀ (s : Fin 2) (c : Dev nD), (Finset.univ : Finset (Dev nD)) = insert c (insert (nb (1 - s) c) (insert (nb s c) ({opp c} : Finset (Dev nD))))
      ∧ c ∉ insert (nb (1 - s) c) (insert (nb s c) ({opp c} : Finset (Dev nD))) ∧ nb (1 - s) c ∉ insert (nb s c) ({opp c} : Finset (Dev nD)) ∧ nb s c ∉ ({opp c} : Finset (Dev nD)) := by
    decide
  obtain ⟨h0, h1, h2, h3⟩ := h s c
  rw [h0, Finset.sum_insert h1, Finset.sum_insert h2, Finset.sum_insert h3, Finset.sum_singleton, add_assoc]

/-- Row `r`, column `q` of device `c`'s result for column block `u`. -/
def out (c : Dev nD) (u : ℕ) (r q : Fin 1024) : EReal := max (∑ d, prod m d c u r q) 0

theorem yL_at (c : Dev nD) (u : ℕ) (r : Fin 1024) (q : Fin 512) : (yL m c u (ix2 r q) : EReal) = out m c u r (hc 0 q) := by
  unfold yL out k0_pay14 k0_pay12 k0_pay13
  dsimp only
  rw [maximumf_apply, addf_apply, addf_apply, extf_apply, extf_apply, extf_apply, flat3, flat4, flat4, half_val, ownM_at, got0_at, got2_at]
  refine congrArg₂ max (four (fun d => prod m d c u r (hc 0 q)) 0 c) ?_
  exact Ideal.ofBits_zero_f32

theorem yR_at (c : Dev nD) (u : ℕ) (r : Fin 1024) (q : Fin 512) : (yR m c u (ix2 r q) : EReal) = out m c u r (hc 1 q) := by
  unfold yR out k0_pay1
  rw [maximumf_apply, addf_apply, addf_apply, extf_apply, extf_apply, extf_apply, flat3, flat4, flat4, half_val, ownM_at, got0_at, got2_at]
  refine congrArg₂ max (four (fun d => prod m d c u r (hc 1 q)) 1 c) ?_
  exact Ideal.ofBits_zero_f32

theorem yM_at (c : Dev nD) (u : ℕ) (r q : Fin 1024) : (yM m c u (ix2 r q) : EReal) = out m c u r q := by
  unfold yM
  by_cases h : q.val < 512
  · rw [dif_pos (show ((ix2 r q : S1024x1024.Idx) 1).val < 512 from h)]
    refine (congrArg (yL m c u) (eq_ix2 _)).trans ((yL_at m c u r ⟨q.val, h⟩).trans (congrArg (out m c u r) (Fin.ext ?_)))
    show 512 * 0 + q.val = q.val; omega
  · rw [dif_neg (show ¬((ix2 r q : S1024x1024.Idx) 1).val < 512 from h)]
    have hq := q.isLt
    refine (congrArg (yR m c u) (eq_ix2 _)).trans ((yR_at m c u r ⟨q.val - 512, by omega⟩).trans (congrArg (out m c u r) (Fin.ext ?_)))
    show 512 * 1 + (q.val - 512) = q.val; omega

end Cert.Rs
-- ==== Proof.Largest.lean ====
/-
# The running maximum, over the extended reals

An extended real bounds the kernel's running maximum exactly when it bounds zero and every entry of the blocks finished so far.
-/
module

public import proofs.«01_k».proof.Proof.Blocks
public import Idealize.ShloMosaic.PureOps.Reduce

@[expose] public section

noncomputable section

namespace Cert.Rs

open Cert.KernelIdeal Cert.KernelIdeal.Gen
open Idealize.ShloMosaic Idealize.ShloMosaic.TcCoe Idealize.ShloMosaic.ValueIdx
open scoped BigOperators

variable (m : (ℓ : Loc nD τ sig) → Buf (Elt Ideal) ℓ)

/-- The pattern of minus infinity is the least extended real. -/
theorem lowest : (FloatOps.ofBits .f32 0xFF800000#32 : Ideal .f32) = (⊥ : EReal) := by
  show Ideal.ofBits .f32 0xFF800000#32 = ⊥
  simp [Ideal.ofBits, Ideal.ieee]

theorem scalar_max (x y : Ideal .f32) : (Scalar.maximumf x y : EReal) = max (x : EReal) y := rfl

/-- The greatest entry of a block, as the kernel takes it. -/
def topE (Y : FVec Ideal S1024x512 .f32) : Ideal .f32 :=
  extractAt ![0, 0, 0] (shapeCast S1x1x1 (multiReduction .maximumf [1, 2] S1 (shapeCast S1x1024x512 Y shapeCasts_S1024x512_S1x1024x512)
    0xFF800000#32 reduces_S1x1024x512_S1 (.inl rfl) rfl) shapeCasts_S1_S1x1x1) inpos_S1x1x1_p0_0_0

theorem fold_le {ι : Type} (s : Finset ι) (f : ι → Ideal .f32) (b : EReal) :
    @LE.le EReal _ (Finset.fold (β := Ideal .f32) FloatOps.maximumf (FloatOps.ofBits .f32 0xFF800000#32 : Ideal .f32) f s) b ↔ ∀ i ∈ s, (f i : EReal) ≤ b := by
  rw [lowest]
  refine (Finset.fold_max_le (β := EReal) b).trans ?_
  exact and_iff_right bot_le

theorem one_idx (i j : S1.Idx) : i = j := funext fun a => by
  match a with
  | ⟨0, _⟩ => exact Subsingleton.elim (α := Fin 1) _ _

theorem red_le (X : FVec Ideal S1x1024x512 .f32) (b : EReal) (j : S1.Idx) :
    @LE.le EReal _ ((multiReduction .maximumf [1, 2] S1 X 0xFF800000#32 reduces_S1x1024x512_S1 (.inl rfl) rfl : FVec Ideal S1 .f32) j) b
      ↔ ∀ i, (X i : EReal) ≤ b := by
  rw [multiReduction_maximumf_eq_fold X 0xFF800000#32 reduces_S1x1024x512_S1 (.inl rfl) rfl j]
  refine (fold_le _ X b).trans ⟨fun h i => h i (Finset.mem_filter.mpr ⟨Finset.mem_univ _, one_idx _ _⟩), fun h i _ => h i⟩

/-- A bound of the greatest entry of a block is a bound of every entry. -/
theorem top_le (Y : FVec Ideal S1024x512 .f32) (b : EReal) : (topE Y : EReal) ≤ b ↔ ∀ r q, (Y (ix2 r q) : EReal) ≤ b := by
  have hR := red_le (shapeCast S1x1024x512 Y shapeCasts_S1024x512_S1x1024x512) b
  unfold topE
  generalize (multiReduction .maximumf [1, 2] S1 (shapeCast S1x1024x512 Y shapeCasts_S1024x512_S1x1024x512)
    0xFF800000#32 reduces_S1x1024x512_S1 (.inl rfl) rfl : FVec Ideal S1 .f32) = R at hR ⊢
  refine (hR (Shape.reshapeEquiv shapeCasts_S1_S1x1x1 fun a => ⟨_, inpos_S1x1x1_p0_0_0 a⟩)).trans ?_
  constructor
  · intro h r q
    have hm := h (ix3 (0 : Fin 1) r q)
    rwa [shapeCast_ab_1ab_apply] at hm
  · intro h i
    obtain ⟨z, r, q, rfl⟩ : ∃ (z : Fin 1) (r : Fin 1024) (q : Fin 512), i = ix3 z r q := ⟨i 0, i 1, i 2, eq_ix3 i⟩
    rw [shapeCast_ab_1ab_apply]
    exact h r q

theorem pay15_eq (a : FVec Ideal S1024x512 .f32) (b : FVec Ideal S1024x512 .bf16) (d : Vec Ideal S1x1x1024x512 .bf16) :
    (k0_pay15 a b d : EReal) = max 0 (topE (k0_pay14 a b d) : EReal) := by
  unfold k0_pay15 topE
  dsimp only
  rw [scalar_max]
  exact congrArg (max · _) Ideal.ofBits_zero_f32

theorem pay2_eq (x : Ideal .f32) (a : Vec Ideal S1x1024x512 .bf16) (b d : Vec Ideal S1x1x1024x512 .bf16) :
    (k0_pay2 x a b d : EReal) = max (x : EReal) (topE (k0_pay1 a b d) : EReal) := by
  unfold k0_pay2 topE
  dsimp only
  rw [scalar_max]

theorem pay3_at (x : Ideal .f32) (a : Vec Ideal S1x1024x512 .bf16) (b d : Vec Ideal S1x1x1024x512 .bf16) (j : S1x128.Idx) :
    k0_pay3 x a b d j = k0_pay2 x a b d := rfl

theorem pay4_at (x : Ideal .f32) (a : Vec Ideal S1x1024x512 .bf16) (b d : Vec Ideal S1x1x1024x512 .bf16) (y : Vec Ideal S1x128 .f32) (j : S1x128.Idx) :
    (k0_pay4 x a b d y j : EReal) = max (y j : EReal) (k0_pay2 x a b d : EReal) := by
  unfold k0_pay4
  rw [shapeCast_self]; rfl

theorem aL_eq (c : Dev nD) (u : ℕ) : (aL m c u : EReal) = max 0 (topE (yL m c u) : EReal) := by
  unfold aL yL
  exact pay15_eq _ _ _

theorem aL_le (c : Dev nD) (u : ℕ) (b : EReal) : (aL m c u : EReal) ≤ b ↔ 0 ≤ b ∧ ∀ r q, out m c u r (hc 0 q) ≤ b := by
  rw [aL_eq, max_le_iff, top_le]
  simp only [yL_at]

/-- The greatest entry of a finished block, over zero. -/
def bM (c : Dev nD) (u : ℕ) : EReal := k0_pay2 (aL m c u) (half 1 (ownM m c u)) (got m 0 u 1 c) (got m 2 u 1 c)

theorem bM_eq (c : Dev nD) (u : ℕ) : bM m c u = max (aL m c u : EReal) (topE (yR m c u) : EReal) := by
  unfold bM yR
  exact pay2_eq _ _ _ _

theorem cols (p : Fin 1024 → Prop) : (∀ q, p q) ↔ (∀ q, p (hc 0 q)) ∧ ∀ q, p (hc 1 q) := by
  constructor
  · exact fun h => ⟨fun q => h _, fun q => h _⟩
  · intro h q
    by_cases hq : q.val < 512
    · have e : hc 0 ⟨q.val, hq⟩ = q := Fin.ext (show 512 * 0 + q.val = q.val by omega)
      exact e ▸ h.1 _
    · have := q.isLt
      have e : hc 1 ⟨q.val - 512, by omega⟩ = q := Fin.ext (show 512 * 1 + (q.val - 512) = q.val by omega)
      exact e ▸ h.2 _

theorem bM_le (c : Dev nD) (u : ℕ) (b : EReal) : bM m c u ≤ b ↔ 0 ≤ b ∧ ∀ r q, out m c u r q ≤ b := by
  rw [bM_eq, max_le_iff, aL_le, top_le, and_assoc]
  simp only [yR_at]
  refine and_congr_right fun _ => ?_
  rw [← forall_and]
  exact forall_congr' fun r => (cols fun q => out m c u r q ≤ b).symm

theorem aM_zero (c : Dev nD) (j : S1x128.Idx) : (aM m c 0 j : EReal) = bM m c 0 := by
  unfold aM bM
  exact pay3_at _ _ _ _ j

theorem aM_succ (c : Dev nD) (u : ℕ) (j : S1x128.Idx) : (aM m c (u + 1) j : EReal) = max (aM m c u j : EReal) (bM m c (u + 1)) := by
  rw [aM, bM]
  exact pay4_at _ _ _ _ _ j

/-- A bound of the running maximum after block `u` is a bound of zero and of every entry of the blocks up to it. -/
theorem aM_le (c : Dev nD) (j : S1x128.Idx) (b : EReal) (u : ℕ) :
    (aM m c u j : EReal) ≤ b ↔ 0 ≤ b ∧ ∀ v, v ≤ u → ∀ r q, out m c v r q ≤ b := by
  induction u with
  | zero =>
    rw [aM_zero, bM_le]
    refine and_congr_right fun _ => ⟨fun h v hv => ?_, fun h => h 0 le_rfl⟩
    obtain rfl : v = 0 := Nat.le_zero.mp hv
    exact h
  | succ u ih =>
    rw [aM_succ, max_le_iff, ih, bM_le]
    refine ⟨fun h => ⟨h.1.1, fun v hv => ?_⟩, fun h => ⟨⟨h.1, fun v hv => h.2 v (by omega)⟩, h.1, h.2 _ le_rfl⟩⟩
    rcases Nat.lt_or_ge v (u + 1) with hlt | hge
    · exact h.1.2 v (by omega)
    · obtain rfl : v = u + 1 := by omega
      exact h.2.2

end Cert.Rs
-- ==== Proof.Arrays.lean ====
/-
# What the arrays hold, over the extended reals

The blocks a device reads, at coordinates of its argument arrays, and the two arrays the kernel leaves: the rectified sum of the four
devices' products, and a row bounded exactly by the bounds of zero and of every entry of that sum.
-/
module

public import proofs.«01_k».proof.Proof.Largest
public import proofs.«01_k».proof.Proof.Run
public import Idealize.ShloMosaic.Lib.Pipeline.ValueKit.Geometry

@[expose] public section

noncomputable section

namespace Cert.Rs

open Cert.KernelIdeal Cert.KernelIdeal.Gen
open Idealize.ShloMosaic Idealize.ShloMosaic.TcCoe Idealize.ShloMosaic.ValueIdx
open scoped BigOperators

variable (m : (ℓ : Loc nD τ sig) → Buf (Elt Ideal) ℓ)

/-- Device `d`'s columns of `x` and its rows of `w`, as its argument arrays hold them. -/
def argX (d : Dev nD) : S4096x1024.Idx → EReal := m ((d : Thread nD τ).loc main_arg0)
def argW (d : Dev nD) : S1024x8192.Idx → EReal := m ((d : Thread nD τ).loc main_arg1)

/-- Row `r` of device `c`'s rows, and column `q` of column block `u`. -/
def gr (c : Dev nD) (r : Fin 1024) : Fin 4096 := ⟨1024 * c.val + r.val, by have h : c.val < 4 := c.isLt; have := r.isLt; omega⟩
def gc (u : Fin 8) (q : Fin 1024) : Fin 8192 := ⟨1024 * u.val + q.val, by have := u.isLt; have := q.isLt; omega⟩

theorem at_x : ∀ t : Fin cfg0.N, win0_0.index t = ![0, 0] := by decide +kernel
theorem at_w : ∀ t : Fin cfg0.N, win0_1.index t = ![0, min t.val 7] := by decide +kernel
theorem at_y : ∀ t : Fin cfg0.N, win0_2.index t = ![0, t.val - 2] := by decide +kernel

theorem xrow_val (d c : Dev nD) (r k : Fin 1024) : (xrow m d c (ix2 r k) : EReal) = argX m d (ix2 (gr c r) k) := by
  show argX m d _ = _
  refine congrArg (argX m d) (funext fun a => Fin.ext ?_)
  match a with
  | ⟨0, _⟩ => blk_simp [at_x]; simp [Rect.emb_apply, gr]
  | ⟨1, _⟩ => blk_simp [at_x]

theorem wblk_val (d : Dev nD) (u : Fin 8) (k q : Fin 1024) : (wblk m d u.val (ix2 k q) : EReal) = argW m d (ix2 k (gc u q)) := by
  show argW m d _ = _
  have hu := u.isLt
  refine congrArg (argW m d) (funext fun a => Fin.ext ?_)
  match a with
  | ⟨0, _⟩ => blk_simp [at_w]
  | ⟨1, _⟩ =>
    blk_simp [at_w]
    show min (u.val % 10) 7 * 1024 + q.val = 1024 * u.val + q.val
    omega

/-- The entry of row `r`, column `n` of device `c`'s result. -/
def res (c : Dev nD) (r : Fin 1024) (n : Fin 8192) : EReal := out m c (n.val / 1024) r ⟨n.val % 1024, Nat.mod_lt _ (by decide)⟩

/-- Written over the argument arrays. -/
theorem res_eq (c : Dev nD) (r : Fin 1024) (n : Fin 8192) :
    res m c r n = max (∑ d : Dev nD, ∑ k : Fin 1024, argX m d (ix2 (gr c r) k) * argW m d (ix2 k n)) 0 := by
  have hn := n.isLt
  have e : gc ⟨n.val / 1024, by omega⟩ ⟨n.val % 1024, Nat.mod_lt _ (by decide)⟩ = n := Fin.ext (by show 1024 * (n.val / 1024) + n.val % 1024 = n.val; omega)
  unfold res out prod
  refine congrArg (max · 0) (Finset.sum_congr rfl fun d _ => Finset.sum_congr rfl fun k _ => ?_)
  rw [xrow_val, wblk_val m d ⟨n.val / 1024, by omega⟩, e]

/-- The first array the kernel leaves on device `c`. -/
theorem final_y (c : Dev nD) : finalA m c (2 : Fin 4) = (fun i : S1024x8192.Idx => res m c (i 0) (i 1)) := by
  unfold finalA
  refine (dats m 0 c).arrAt_eq_of_covers (2 : Fin 4) _ (by decide +kernel) fun t hf y => ?_
  have ht : 2 ≤ t.val := by
    by_contra h
    exact absurd hf (by rw [flush_y t (by omega)]; decide)
  have ht' : t.val < 10 := lt_of_lt_of_eq t.isLt N_0
  obtain ⟨r, q, rfl⟩ : ∃ (r q : Fin 1024), y = ix2 r q := ⟨y 0, y 1, eq_ix2 y⟩
  have e0 : ((win0_2.blk t).view.emb (ix2 r q) 0 : Fin 1024) = r := Fin.ext (by blk_simp [at_y]; rfl)
  have e1 : (((win0_2.blk t).view.emb (ix2 r q) 1 : Fin 8192) : ℕ) = (t.val - 2) * 1024 + q.val := by blk_simp [at_y]; rfl
  show (yM m c (t.val - 2) (ix2 r q) : EReal) = res m c ((win0_2.blk t).view.emb (ix2 r q) 0) ((win0_2.blk t).view.emb (ix2 r q) 1)
  rw [yM_at, e0]
  have hq := q.isLt
  unfold res
  refine congrArg₂ (fun u => out m c u r) ?_ (Fin.ext ?_)
  · rw [e1]; omega
  · show q.val = _ % 1024
    rw [e1]; omega

theorem at_a : ∀ t : Fin cfg0.N, win0_3.index t = ![0, 0] := by decide +kernel

/-- What the second array holds is what the body leaves at the last point, the running maximum after the last block. -/
theorem last_a (c : Dev nD) (G : S1x128.Idx → EReal) (h : ∀ u, u = 7 → ∀ j, (aM m c u j : EReal) = G j) : finalA m c (3 : Fin 4) = G := by
  unfold finalA
  refine (dats m 0 c).arrAt_eq_of_covers (3 : Fin 4) _ (by decide +kernel) fun t hf y => ?_
  have ht := (flush0_3 t).mp hf
  have ht' : t.val < 10 := lt_of_lt_of_eq t.isLt N_0
  have e : (win0_3.blk t).view.emb y = y := funext fun a => Fin.ext (by
    match a with
    | ⟨0, _⟩ => blk_simp [at_a]
    | ⟨1, _⟩ => blk_simp [at_a])
  show (aM m c (t.val - 2) y : EReal) = G ((win0_3.blk t).view.emb y)
  rw [e]
  exact h _ (by omega) y

theorem final_a (c : Dev nD) : finalA m c (3 : Fin 4) = aM m c 7 := last_a m c _ fun u h j => by rw [h]

/-- The second array the kernel leaves on device `c` is bounded exactly by the bounds of zero and of every entry of the first. -/
theorem final_a_le (c : Dev nD) (j : S1x128.Idx) (b : EReal) :
    @LE.le EReal _ ((finalA m c (3 : Fin 4) : S1x128.Idx → EReal) j) b ↔ 0 ≤ b ∧ ∀ r n, res m c r n ≤ b := by
  rw [final_a]
  refine (aM_le m c j b 7).trans (and_congr_right fun _ => ⟨fun h r n => h _ (by have := n.isLt; omega) _ _, fun h v hv r q => ?_⟩)
  have hq := q.isLt
  have := h r (gc ⟨v, by omega⟩ q)
  unfold res at this
  have e0 : (gc ⟨v, by omega⟩ q).val / 1024 = v := by show (1024 * v + q.val) / 1024 = v; omega
  have e1 : (⟨(gc ⟨v, by omega⟩ q).val % 1024, Nat.mod_lt _ (by decide)⟩ : Fin 1024) = q :=
    Fin.ext (by show (1024 * v + q.val) % 1024 = q.val; omega)
  rwa [e0, e1] at this

end Cert.Rs
-- ==== Proof.Refer.lean ====
/-
# What the reference's arrays hold, over the extended reals

The reference's first result at a row and a column, and the bounds of its second result.
-/
module

public import proofs.«01_k».proof.Proof.Arrays
public import proofs.«01_k».proof.Proof.Gen.ReferenceIdeal.Run
public import Idealize.ShloMosaic.Lib.StackMember
public import Idealize.ShloMosaic.Lib.IdealHost
public import Idealize.ShloMosaic.Lib.Pipeline.Value

@[expose] public section

noncomputable section

namespace Cert.Rs

open Cert.ReferenceIdeal Cert.ReferenceIdeal.Gen
open Idealize.ShloMosaic Idealize.ShloMosaic.TcCoe Idealize.ShloMosaic.ValueIdx
open scoped BigOperators

variable (X : FVec Ideal S4096x4096 .bf16) (W : FVec Ideal S4096x8192 .bf16)

/-- The reference's first result, of the whole arrays; -/
def refY : FVec Ideal S4096x8192 .f32 :=
  maximumf (Host.dotGeneral dot_S4096x4096_S4096x8192_S4096x8192_1_0_0_1_n_n none (extf .f32 X bitsLt_bf16_f32) (extf .f32 W bitsLt_bf16_f32))
    (broadcastInDim S4096x8192 ![] bcast_S_S4096x8192 (constant S_ .f32 0x00000000#32))
/-- the largest entry of each quarter of its rows; -/
def refM (Y : FVec Ideal S4096x8192 .f32) : FVec Ideal S4 .f32 :=
  Host.reduce FloatOps.maximumf (shapeCast S4x8388608 (Host.absf Y) shapeCasts_S4096x8192_S4x8388608) (constant S_ .f32 0xFF800000#32)
    reducesTo_S4x8388608_S4_d1 h_S_
/-- and its second result, of the first. -/
def refA (Y : FVec Ideal S4096x8192 .f32) : FVec Ideal S4x128 .f32 :=
  broadcastInDim S4x128 ![0, 1] bcast_S4x1_S4x128_0_1 (broadcastInDim S4x1 ![0] bcast_S4_S4x1_0 (refM Y))

theorem refY_at (r : Fin 4096) (n : Fin 8192) :
    (refY X W (ix2 r n) : EReal) = max (∑ k : Fin 4096, (X (ix2 r k) : EReal) * W (ix2 k n)) 0 := by
  unfold refY
  rw [maximumf_apply]
  refine congrArg₂ max ?_ ?_
  · exact Idealize.ShloMosaic.StackMember.dotGeneral_plain_apply none (extf .f32 X bitsLt_bf16_f32) (extf .f32 W bitsLt_bf16_f32) r n
  · exact Ideal.ofBits_zero_f32

theorem refY_nonneg (i : S4096x8192.Idx) : (0 : EReal) ≤ refY X W i := by
  obtain ⟨r, n, rfl⟩ : ∃ (r : Fin 4096) (n : Fin 8192), i = ix2 r n := ⟨i 0, i 1, eq_ix2 i⟩
  rw [refY_at]; exact le_max_right _ _

theorem abs_le (Y : FVec Ideal S4096x8192 .f32) (i : S4096x8192.Idx) (hY : (0 : EReal) ≤ Y i) (b : EReal) :
    @LE.le EReal _ (Host.absf Y i) b ↔ @LE.le EReal _ (Y i) b := by
  have e : (Host.absf Y i : EReal) = max (Y i : EReal) (-(Y i : EReal)) := rfl
  rw [e]
  refine max_le_iff.trans (and_iff_left_of_imp fun h => le_trans (EReal.neg_le_zero.mpr hY) (le_trans hY h))

/-- The array in four rows, at coordinates. -/
theorem quarter_at (Y : FVec Ideal S4096x8192 .f32) (c : Fin 4) (r : Fin 1024) (n : Fin 8192) (e : Fin 8388608) (he : e.val = r.val * 8192 + n.val) :
    shapeCast S4x8388608 Y shapeCasts_S4096x8192_S4x8388608 (ix2 c e) = Y (ix2 (gr c r) n) := by
  refine shapeCast_apply Y _ _ _ ?_
  rw [Shape.rowMajor_val_two, Shape.rowMajor_val_two]
  show (1024 * c.val + r.val) * 8192 + n.val = c.val * 8388608 + e.val
  omega

/-- A bound of the largest entry of a quarter is a bound of every entry of it. -/
theorem refM_le (Y : FVec Ideal S4096x8192 .f32) (hY : ∀ i, (0 : EReal) ≤ Y i) (c : Fin 4) (b : EReal) :
    @LE.le EReal _ (refM Y (ix1 c)) b ↔ ∀ (r : Fin 1024) (n : Fin 8192), @LE.le EReal _ (Y (ix2 (gr c r) n)) b := by
  unfold refM
  rw [Host.reduce_eq_fold, constant_apply]
  refine (fold_le _ _ b).trans ⟨fun h r n => ?_, fun h i hi => ?_⟩
  · have hr := r.isLt
    have hn := n.isLt
    have := h (ix2 c ⟨r.val * 8192 + n.val, by omega⟩) (Finset.mem_filter.mpr ⟨Finset.mem_univ _, funext fun a => Fin.ext (by
      match a with
      | ⟨0, _⟩ => exact Shape.ReducesTo.drop_apply_val_of_eq reducesTo_S4x8388608_S4_d1 _ 0 0)⟩)
    rw [quarter_at _ c r n _ rfl] at this
    exact (abs_le Y _ (hY _) b).mp this
  · obtain ⟨c', e, rfl⟩ : ∃ (c' : Fin 4) (e : Fin 8388608), i = ix2 c' e := ⟨i 0, i 1, eq_ix2 i⟩
    have hc : c' = c := Fin.ext ((Shape.ReducesTo.drop_apply_val_of_eq reducesTo_S4x8388608_S4_d1 _ 0 0).symm.trans
      (congrArg (fun j : S4.Idx => (j 0).val) (Finset.mem_filter.mp hi).2))
    have he := e.isLt
    rw [hc, quarter_at _ c ⟨e.val / 8192, by omega⟩ ⟨e.val % 8192, Nat.mod_lt _ (by decide)⟩ e (by show e.val = e.val / 8192 * 8192 + e.val % 8192; omega)]
    exact (abs_le Y _ (hY _) b).mpr (h _ _)

theorem refA_at (Y : FVec Ideal S4096x8192 .f32) (c : Fin 4) (l : Fin 128) : refA Y (ix2 c l) = refM Y (ix1 c) := by
  unfold refA
  refine (broadcastInDim_apply _ _ _ _ (ix2 c (0 : Fin 1)) fun a => ?_).trans (broadcastInDim_apply _ _ _ _ (ix1 c) fun a => ?_)
  · match a with
    | ⟨0, _⟩ => rfl
    | ⟨1, _⟩ => rfl
  · match a with
    | ⟨0, _⟩ => rfl

end Cert.Rs
-- ==== Proof.Equation.lean ====
/-
# The kernel's arrays are the reference's

Cutting the contraction into the four devices' shares turns the reference's product into the sum the devices form; the two arrays of
every device are then its blocks of the reference's two results.
-/
module

public import proofs.«01_k».proof.Defs
public import proofs.«01_k».proof.Proof.Refer
public import Idealize.ShloMosaic.Lib.Layout

@[expose] public section

noncomputable section

namespace Cert.Rs

open Idealize.ShloMosaic Idealize.SL.Sem Idealize.ShloMosaic.TcCoe Idealize.ShloMosaic.ValueIdx
open scoped BigOperators

/-- A sum over the contraction is the sum over the devices of the sums over their shares. -/
theorem sum_shares (f : Fin 4096 → EReal) : ∑ K : Fin 4096, f K = ∑ d : Fin 4, ∑ k : Fin 1024, f (gr d k) := by
  rw [← Fintype.sum_prod_type' (f := fun (d : Fin 4) (k : Fin 1024) => f (gr d k))]
  refine (Fintype.sum_equiv ((finProdFinEquiv (m := 4) (n := 1024)).trans (finCongr (by norm_num))) _ _ fun p => congrArg f (Fin.ext ?_)).symm
  show 1024 * p.1.val + p.2.val = p.2.val + 1024 * p.1.val
  omega

section
open Cert.KernelIdeal

variable (m : (ℓ : Loc nD τ sig) → Buf (Elt Ideal) ℓ) (X : FVec Ideal Cert.ReferenceIdeal.S4096x4096 .bf16)
  (W : FVec Ideal Cert.ReferenceIdeal.S4096x8192 .bf16)

/-- Every device's arguments are its blocks of the two arrays. -/
def Agree : Prop := ∀ c : Dev nD,
  m ((c : Thread nD τ).loc main_arg0) = Layout.block ⟨2, ![4096, 1024]⟩ ⟨2, ![4096, 4096]⟩ 1 4 c X
    ∧ m ((c : Thread nD τ).loc main_arg1) = Layout.block ⟨2, ![1024, 8192]⟩ ⟨2, ![4096, 8192]⟩ 0 4 c W

variable {m X W}

theorem argX_at (h : Agree m X W) (d : Dev nD) (r : Fin 4096) (k : Fin 1024) : argX m d (ix2 r k) = (X (ix2 r (gr d k)) : EReal) := by
  refine (congrFun (h d).1 (ix2 r k)).trans (congrArg X (funext fun a => Fin.ext ?_))
  match a with
  | ⟨0, _⟩ => rfl
  | ⟨1, _⟩ => show d.val * 1024 + k.val = 1024 * d.val + k.val; omega

theorem argW_at (h : Agree m X W) (d : Dev nD) (k : Fin 1024) (n : Fin 8192) : argW m d (ix2 k n) = (W (ix2 (gr d k) n) : EReal) := by
  refine (congrFun (h d).2 (ix2 k n)).trans (congrArg W (funext fun a => Fin.ext ?_))
  match a with
  | ⟨0, _⟩ => show d.val * 1024 + k.val = 1024 * d.val + k.val; omega
  | ⟨1, _⟩ => rfl

/-- Device `c`'s result is its rows of the reference's. -/
theorem res_ref (h : Agree m X W) (c : Dev nD) (r : Fin 1024) (n : Fin 8192) : res m c r n = (refY X W (ix2 (gr c r) n) : EReal) := by
  rw [res_eq, refY_at, sum_shares]
  refine congrArg (max · 0) (Finset.sum_congr rfl fun d _ => Finset.sum_congr rfl fun k _ => ?_)
  rw [argX_at h, argW_at h]

theorem block_y (h : Agree m X W) (c : Dev nD) :
    finalA m c (2 : Fin 4) = Layout.block ⟨2, ![1024, 8192]⟩ ⟨2, ![4096, 8192]⟩ 0 4 c (refY X W) := by
  rw [final_y]
  funext i
  obtain ⟨r, n, rfl⟩ : ∃ (r : Fin 1024) (n : Fin 8192), i = ix2 r n := ⟨i 0, i 1, eq_ix2 i⟩
  refine (res_ref h c r n).trans (congrArg (refY X W) (funext fun a => Fin.ext ?_))
  match a with
  | ⟨0, _⟩ => show 1024 * c.val + r.val = c.val * 1024 + r.val; omega
  | ⟨1, _⟩ => rfl

theorem block_a (h : Agree m X W) (c : Dev nD) :
    finalA m c (3 : Fin 4) = Layout.block ⟨2, ![1, 128]⟩ ⟨2, ![4, 128]⟩ 0 4 c (refA (refY X W)) := by
  funext i
  obtain ⟨z, l, rfl⟩ : ∃ (z : Fin 1) (l : Fin 128), i = ix2 z l := ⟨i 0, i 1, eq_ix2 i⟩
  have e : (Layout.block ⟨2, ![1, 128]⟩ ⟨2, ![4, 128]⟩ 0 4 c (refA (refY X W)) : (⟨2, ![1, 128]⟩ : Shape).Idx → Ideal .f32) (ix2 z l) = refA (refY X W) (ix2 c l) := by
    refine congrArg (refA (refY X W)) (funext fun a => Fin.ext ?_)
    match a with
    | ⟨0, _⟩ => show c.val * 1 + z.val = c.val; omega
    | ⟨1, _⟩ => rfl
  rw [e, refA_at]
  refine eq_of_forall_ge_iff (α := EReal) fun b => (final_a_le m c _ b).trans ?_
  rw [refM_le _ (refY_nonneg X W)]
  simp only [res_ref h]
  exact and_iff_right_of_imp fun hb => le_trans (refY_nonneg X W _) (hb 0 0)

end

/-- The kernel over the extended reals computes the reference: both run, and every device's two results are its blocks of the
    reference's two results. -/
theorem algebraic : Cert.algebraic_KernelIdeal_ReferenceIdeal := by
  intro m g m' g' _ hagree
  refine ⟨refY (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    refA (refY (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))), ?_, ?_⟩
  · refine (θ_run Cert.KernelIdeal.defs _ _).mono (fun r h c => ?_) (run_main m g)
    exact ⟨(h.1 c (2 : Fin 4)).trans (block_y hagree c), (h.1 c (3 : Fin 4)).trans (block_a hagree c),
      (h.1 c (0 : Fin 4)).trans (final_x m c), (h.1 c (1 : Fin 4)).trans (final_w m c)⟩
  · exact (θ_run Cert.ReferenceIdeal.defs _ _).mono (fun _ h => h 0) (Cert.ReferenceIdeal.Value.run (F := Ideal) m' g')

end Cert.Rs
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Equation
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim := ⟨Cert.Kernel.Gen.facts, Cert.KernelIdeal.Gen.facts, Cert.ReferenceIdeal.Gen.facts,
  Cert.Rs.frame_kernel, Cert.Rs.frame_ideal, Cert.Rs.frame_reference, trivial, Cert.Rs.algebraic⟩

end Cert.Proof

end
